-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_bias [hPre_finite_no_bias : Cert.Pre_finite_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_bias [hPre_finite_no_bias : Cert.Pre_finite_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_no_bias [hKernelIdeal : Cert.KernelIdeal.Facts] [hPre_finite_no_bias : Cert.Pre_finite_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_no_bias [hReferenceIdeal : Cert.ReferenceIdeal.Facts] [hPre_finite_no_bias : Cert.Pre_finite_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_no_bias [hKernelIdeal : Cert.KernelIdeal.Facts] [hReferenceIdeal : Cert.ReferenceIdeal.Facts] [hPre_finite_no_bias : Cert.Pre_finite_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_no_bias : Cert.Pre_finite_no_bias.Facts),
    quiescent_Kernel (hKernel := hKernel)
    ∧ quiescent_KernelIdeal (hKernelIdeal := hKernelIdeal)
    ∧ quiescent_KernelIdeal_pre_finite_no_bias (hKernelIdeal := hKernelIdeal) (hPre_finite_no_bias := hPre_finite_no_bias)
    ∧ quiescent_ReferenceIdeal (hReferenceIdeal := hReferenceIdeal)
    ∧ quiescent_ReferenceIdeal_pre_finite_no_bias (hReferenceIdeal := hReferenceIdeal) (hPre_finite_no_bias := hPre_finite_no_bias)
    ∧ preserves_Kernel_KernelIdeal
    ∧ algebraic_KernelIdeal_ReferenceIdeal_pre_finite_no_bias (hKernelIdeal := hKernelIdeal) (hReferenceIdeal := hReferenceIdeal) (hPre_finite_no_bias := hPre_finite_no_bias)
-- ==== Pre_finite_no_bias.lean ====
abbrev S16x96x32x32 : Shape := ⟨4, ![16, 96, 32, 32]⟩
abbrev S1392x48x1x1 : Shape := ⟨4, ![1392, 48, 1, 1]⟩
abbrev S1392 : Shape := ⟨1, ![1392]⟩
abbrev S16x48x32x32 : Shape := ⟨4, ![16, 48, 32, 32]⟩
abbrev S_ : Shape := ⟨0, ![]⟩

class Facts : Prop where
  slices_S16x96x32x32_S16x48x32x32_0_0_0_0 : S16x96x32x32.Slices ![0, 0, 0, 0] S16x48x32x32
  bcast_S_S16x48x32x32 : S_.BroadcastsInDim S16x48x32x32 (![] : Fin 0 → Fin S16x48x32x32.rank)
  reducesTo_S16x48x32x32_S_d0_1_2_3 : S16x48x32x32.ReducesTo [0, 1, 2, 3] S_
  h_S_ : 0 < S_.numel
  bcast_S_S1392x48x1x1 : S_.BroadcastsInDim S1392x48x1x1 (![] : Fin 0 → Fin S1392x48x1x1.rank)
  reducesTo_S1392x48x1x1_S_d0_1_2_3 : S1392x48x1x1.ReducesTo [0, 1, 2, 3] S_
  bcast_S_S1392 : S_.BroadcastsInDim S1392 (![] : Fin 0 → Fin S1392.rank)
  reducesTo_S1392_S_d0 : S1392.ReducesTo [0] S_

variable [Facts]

def fn {F : FTy → Type} [FloatOps F] (main_arg0 : FVec F S16x96x32x32 .f32) (main_arg1 : FVec F S1392x48x1x1 .f32) (main_arg2 : FVec F S1392 .f32) : IVec S_ 1 :=
  let main_v0 : FVec F S16x48x32x32 .f32 := (extractStridedSlice S16x48x32x32 ![0, 0, 0, 0] · slices_S16x96x32x32_S16x48x32x32_0_0_0_0) main_arg0
  let main_v1 : FVec F S16x48x32x32 .f32 := Host.absf main_v0
  let main_cst : FVec F S_ .f32 := constant S_ .f32 0x7F800000#32
  let main_v2 : FVec F S16x48x32x32 .f32 := broadcastInDim S16x48x32x32 ![] bcast_S_S16x48x32x32 main_cst
  let main_v3 : IVec S16x48x32x32 1 := cmpf .olt main_v1 main_v2
  let main_c : IVec S_ 1 := constantI S_ 1 1#1
  let main_v4 : IVec S_ 1 := (fun x v => Host.reduce IntOp.andi x v reducesTo_S16x48x32x32_S_d0_1_2_3 h_S_) main_v3 main_c
  let main_v5 : FVec F S1392x48x1x1 .f32 := Host.absf main_arg1
  let main_cst_0 : FVec F S_ .f32 := constant S_ .f32 0x7F800000#32
  let main_v6 : FVec F S1392x48x1x1 .f32 := broadcastInDim S1392x48x1x1 ![] bcast_S_S1392x48x1x1 main_cst_0
  let main_v7 : IVec S1392x48x1x1 1 := cmpf .olt main_v5 main_v6
  let main_c_1 : IVec S_ 1 := constantI S_ 1 1#1
  let main_v8 : IVec S_ 1 := (fun x v => Host.reduce IntOp.andi x v reducesTo_S1392x48x1x1_S_d0_1_2_3 h_S_) main_v7 main_c_1
  let main_v9 : IVec S_ 1 := andi main_v4 main_v8
  let main_cst_2 : FVec F S_ .f32 := constant S_ .f32 0x00000000#32
  let main_v10 : FVec F S1392 .f32 := broadcastInDim S1392 ![] bcast_S_S1392 main_cst_2
  let main_v11 : IVec S1392 1 := cmpf .oeq main_arg2 main_v10
  let main_c_3 : IVec S_ 1 := constantI S_ 1 1#1
  let main_v12 : IVec S_ 1 := (fun x v => Host.reduce IntOp.andi x v reducesTo_S1392_S_d0 h_S_) main_v11 main_c_3
  let main_v13 : IVec S_ 1 := andi main_v9 main_v12
  main_v13
-- ==== Kernel.lean ====
abbrev S16x96x32x32 : Shape := ⟨4, ![16, 96, 32, 32]⟩
abbrev S1392x48x1x1 : Shape := ⟨4, ![1392, 48, 1, 1]⟩
abbrev S1392 : Shape := ⟨1, ![1392]⟩
abbrev S16x96x1024 : Shape := ⟨3, ![16, 96, 1024]⟩
abbrev S1392x48 : Shape := ⟨2, ![1392, 48]⟩
abbrev S48x29x48 : Shape := ⟨3, ![48, 29, 48]⟩
abbrev S29x48x48 : Shape := ⟨3, ![29, 48, 48]⟩
abbrev S16x1x1 : Shape := ⟨3, ![16, 1, 1]⟩
abbrev S1x48x1024 : Shape := ⟨3, ![1, 48, 1024]⟩
abbrev S1x96x1024 : Shape := ⟨3, ![1, 96, 1024]⟩
abbrev S1x1x1 : Shape := ⟨3, ![1, 1, 1]⟩
abbrev S48x1024 : Shape := ⟨2, ![48, 1024]⟩
abbrev S1392x1024 : Shape := ⟨2, ![1392, 1024]⟩
abbrev S8x128 : Shape := ⟨2, ![8, 128]⟩
abbrev S1x8x128 : Shape := ⟨3, ![1, 8, 128]⟩
abbrev S1 : Shape := ⟨1, ![1]⟩
abbrev S16 : Shape := ⟨1, ![16]⟩

abbrev nBuf : Space → Nat
  | .hbm => 12
  | .vmem => 9
  | .smem => 0
  | _ => 0

abbrev bufTy : (tb : Table) → Fin (tcTables nBuf tb) → BufTy
  | .hbm, ⟨0, _⟩ => ⟨S16x96x32x32, .f32⟩
  | .hbm, ⟨1, _⟩ => ⟨S1392x48x1x1, .f32⟩
  | .hbm, ⟨2, _⟩ => ⟨S1392, .f32⟩
  | .hbm, ⟨3, _⟩ => ⟨S16x96x1024, .f32⟩
  | .hbm, ⟨4, _⟩ => ⟨S1392x48, .f32⟩
  | .hbm, ⟨5, _⟩ => ⟨S48x29x48, .f32⟩
  | .hbm, ⟨6, _⟩ => ⟨S29x48x48, .f32⟩
  | .hbm, ⟨7, _⟩ => ⟨S1392x48, .f32⟩
  | .hbm, ⟨8, _⟩ => ⟨S16x96x1024, .f32⟩
  | .hbm, ⟨9, _⟩ => ⟨S16x1x1, .f32⟩
  | .hbm, ⟨10, _⟩ => ⟨S16x96x32x32, .f32⟩
  | .hbm, ⟨11, _⟩ => ⟨S16, .f32⟩
  | .local _ .vmem, ⟨0, _⟩ => ⟨S1x48x1024, .f32⟩
  | .local _ .vmem, ⟨1, _⟩ => ⟨S1x48x1024, .f32⟩
  | .local _ .vmem, ⟨2, _⟩ => ⟨S1x48x1024, .f32⟩
  | .local _ .vmem, ⟨3, _⟩ => ⟨S1x48x1024, .f32⟩
  | .local _ .vmem, ⟨4, _⟩ => ⟨S1392x48, .f32⟩
  | .local _ .vmem, ⟨5, _⟩ => ⟨S1x96x1024, .f32⟩
  | .local _ .vmem, ⟨6, _⟩ => ⟨S1x96x1024, .f32⟩
  | .local _ .vmem, ⟨7, _⟩ => ⟨S1x1x1, .f32⟩
  | .local _ .vmem, ⟨8, _⟩ => ⟨S1x1x1, .f32⟩
  | _, _ => ⟨S16x96x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x48x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x48x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1392x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x96x32x32 : Shape := ⟨4, ![16, 96, 32, 32]⟩
abbrev S1392x48x1x1 : Shape := ⟨4, ![1392, 48, 1, 1]⟩
abbrev S1392 : Shape := ⟨1, ![1392]⟩
abbrev S16x48x32x32 : Shape := ⟨4, ![16, 48, 32, 32]⟩
abbrev S1392x48 : Shape := ⟨2, ![1392, 48]⟩
abbrev S16x32x32x1392 : Shape := ⟨4, ![16, 32, 32, 1392]⟩
abbrev S16x1392x32x32 : Shape := ⟨4, ![16, 1392, 32, 32]⟩
abbrev S1x1392x1x1 : Shape := ⟨4, ![1, 1392, 1, 1]⟩
abbrev S16x48x29x32x32 : Shape := ⟨5, ![16, 48, 29, 32, 32]⟩
abbrev S16x48x32x32x29 : Shape := ⟨5, ![16, 48, 32, 32, 29]⟩
abbrev S16x48x32x32x10 : Shape := ⟨5, ![16, 48, 32, 32, 10]⟩
abbrev S16x48x32x32x9 : Shape := ⟨5, ![16, 48, 32, 32, 9]⟩
abbrev S_ : Shape := ⟨0, ![]⟩
abbrev S16x48x32x32x11 : Shape := ⟨5, ![16, 48, 32, 32, 11]⟩
abbrev S16x48x32x32x1 : Shape := ⟨5, ![16, 48, 32, 32, 1]⟩
abbrev S16x48x32x32x1x1 : Shape := ⟨6, ![16, 48, 32, 32, 1, 1]⟩
abbrev S1 : Shape := ⟨1, ![1]⟩
abbrev S1x1x1x1x1x1 : Shape := ⟨6, ![1, 1, 1, 1, 1, 1]⟩
abbrev S16 : Shape := ⟨1, ![16]⟩

abbrev nBuf : Space → Nat
  | .hbm => 370
  | .vmem => 0
  | .smem => 0
  | _ => 0

abbrev hbmTy0_0 (i : Nat) : BufTy := match i % 128 with
  | 0 => ⟨S16x96x32x32, .f32⟩
  | 1 => ⟨S1392x48x1x1, .f32⟩
  | 2 => ⟨S1392, .f32⟩
  | 3 => ⟨S16x48x32x32, .f32⟩
  | 4 => ⟨S16x48x32x32, .f32⟩
  | 5 => ⟨S1392x48, .f32⟩
  | 6 => ⟨S16x32x32x1392, .f32⟩
  | 7 => ⟨S16x1392x32x32, .f32⟩
  | 8 => ⟨S1x1392x1x1, .f32⟩
  | 9 => ⟨S16x1392x32x32, .f32⟩
  | 10 => ⟨S16x1392x32x32, .f32⟩
  | 11 => ⟨S16x48x29x32x32, .f32⟩
  | 12 => ⟨S16x48x32x32x29, .f32⟩
  | 13 => ⟨S16x48x32x32x10, .f32⟩
  | 14 => ⟨S16x48x32x32x10, .f32⟩
  | 15 => ⟨S16x48x32x32x9, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S16x48x32x32x11, .f32⟩
  | 24 => ⟨S_, .f32⟩
  | 25 => ⟨S16x48x32x32, .f32⟩
  | 26 => ⟨S16x48x32x32, .i1⟩
  | 27 => ⟨S_, .f32⟩
  | 28 => ⟨S16x48x32x32, .f32⟩
  | 29 => ⟨S16x48x32x32, .i1⟩
  | 30 => ⟨S16x48x32x32, .i1⟩
  | 31 => ⟨S_, .f32⟩
  | 32 => ⟨S_, .f32⟩
  | 33 => ⟨S_, .f32⟩
  | 34 => ⟨S16x48x32x32, .f32⟩
  | 35 => ⟨S16x48x32x32, .f32⟩
  | 36 => ⟨S_, .f32⟩
  | 37 => ⟨S16x48x32x32, .f32⟩
  | 38 => ⟨S16x48x32x32, .f32⟩
  | 39 => ⟨S_, .f32⟩
  | 40 => ⟨S16x48x32x32, .f32⟩
  | 41 => ⟨S_, .f32⟩
  | 42 => ⟨S16x48x32x32, .f32⟩
  | 43 => ⟨S16x48x32x32, .f32⟩
  | 44 => ⟨S16x48x32x32x1, .f32⟩
  | 45 => ⟨S16x48x32x32x10, .f32⟩
  | 46 => ⟨S16x48x32x32x10, .f32⟩
  | 47 => ⟨S16x48x32x32x10, .f32⟩
  | 48 => ⟨S_, .f32⟩
  | 49 => ⟨S16x48x32x32, .f32⟩
  | 50 => ⟨S16x48x32x32x1, .f32⟩
  | 51 => ⟨S16x48x32x32x10, .f32⟩
  | 52 => ⟨S16x48x32x32x10, .f32⟩
  | 53 => ⟨S_, .f32⟩
  | 54 => ⟨S16x48x32x32x10, .f32⟩
  | 55 => ⟨S16x48x32x32x10, .f32⟩
  | 56 => ⟨S_, .f32⟩
  | 57 => ⟨S16x48x32x32x10, .f32⟩
  | 58 => ⟨S16x48x32x32x10, .f32⟩
  | 59 => ⟨S_, .f32⟩
  | 60 => ⟨S_, .f32⟩
  | 61 => ⟨S16x48x32x32x10, .f32⟩
  | 62 => ⟨S_, .f32⟩
  | 63 => ⟨S16x48x32x32x10, .f32⟩
  | 64 => ⟨S16x48x32x32x10, .f32⟩
  | 65 => ⟨S_, .f32⟩
  | 66 => ⟨S16x48x32x32x10, .f32⟩
  | 67 => ⟨S16x48x32x32x10, .f32⟩
  | 68 => ⟨S16x48x32x32x1, .f32⟩
  | 69 => ⟨S_, .f32⟩
  | 70 => ⟨S16x48x32x32x1, .f32⟩
  | 71 => ⟨S16x48x32x32x1, .f32⟩
  | 72 => ⟨S16x48x32x32x9, .f32⟩
  | 73 => ⟨S16x48x32x32x11, .f32⟩
  | 74 => ⟨S16x48x32x32x10, .f32⟩
  | 75 => ⟨S16x48x32x32x10, .f32⟩
  | 76 => ⟨S16x48x32x32x10, .f32⟩
  | 77 => ⟨S_, .f32⟩
  | 78 => ⟨S16x48x32x32x11, .f32⟩
  | 79 => ⟨S16x48x32x32x11, .f32⟩
  | 80 => ⟨S16x48x32x32x11, .f32⟩
  | 81 => ⟨S16x48x32x32x11, .f32⟩
  | 82 => ⟨S16x48x32x32x11, .i1⟩
  | 83 => ⟨S16x48x32x32x11, .f32⟩
  | 84 => ⟨S16x48x32x32x11, .f32⟩
  | 85 => ⟨S16x48x32x32x11, .f32⟩
  | 86 => ⟨S16x48x32x32x11, .f32⟩
  | 87 => ⟨S16x48x32x32x11, .f32⟩
  | 88 => ⟨S16x48x32x32x11, .f32⟩
  | 89 => ⟨S16x48x32x32x11, .f32⟩
  | 90 => ⟨S16x48x32x32x11, .f32⟩
  | 91 => ⟨S_, .f32⟩
  | 92 => ⟨S16x48x32x32x11, .f32⟩
  | 93 => ⟨S16x48x32x32x11, .f32⟩
  | 94 => ⟨S_, .f32⟩
  | 95 => ⟨S16x48x32x32, .f32⟩
  | 96 => ⟨S_, .f32⟩
  | 97 => ⟨S16x48x32x32, .f32⟩
  | 98 => ⟨S16x48x32x32, .f32⟩
  | 99 => ⟨S16x48x32x32x1, .f32⟩
  | 100 => ⟨S16x48x32x32x10, .f32⟩
  | 101 => ⟨S16x48x32x32x10, .f32⟩
  | 102 => ⟨S16x48x32x32x10, .f32⟩
  | 103 => ⟨S_, .f32⟩
  | 104 => ⟨S16x48x32x32, .f32⟩
  | 105 => ⟨S16x48x32x32x1, .f32⟩
  | 106 => ⟨S16x48x32x32x10, .f32⟩
  | 107 => ⟨S16x48x32x32x10, .f32⟩
  | 108 => ⟨S_, .f32⟩
  | 109 => ⟨S16x48x32x32x10, .f32⟩
  | 110 => ⟨S16x48x32x32x10, .f32⟩
  | 111 => ⟨S_, .f32⟩
  | 112 => ⟨S16x48x32x32x10, .f32⟩
  | 113 => ⟨S16x48x32x32x10, .f32⟩
  | 114 => ⟨S_, .f32⟩
  | 115 => ⟨S_, .f32⟩
  | 116 => ⟨S16x48x32x32x10, .f32⟩
  | 117 => ⟨S_, .f32⟩
  | 118 => ⟨S16x48x32x32x10, .f32⟩
  | 119 => ⟨S16x48x32x32x10, .f32⟩
  | 120 => ⟨S_, .f32⟩
  | 121 => ⟨S16x48x32x32x10, .f32⟩
  | 122 => ⟨S16x48x32x32x10, .f32⟩
  | 123 => ⟨S16x48x32x32x1, .f32⟩
  | 124 => ⟨S_, .f32⟩
  | 125 => ⟨S16x48x32x32x1, .f32⟩
  | 126 => ⟨S16x48x32x32x1, .f32⟩
  | 127 => ⟨S16x48x32x32x9, .f32⟩
  | _ => ⟨S16x96x32x32, .f32⟩

abbrev hbmTy0_1 (i : Nat) : BufTy := match i % 128 with
  | 0 => ⟨S16x48x32x32x11, .f32⟩
  | 1 => ⟨S16x48x32x32x10, .f32⟩
  | 2 => ⟨S16x48x32x32x10, .f32⟩
  | 3 => ⟨S16x48x32x32x10, .f32⟩
  | 4 => ⟨S16x48x32x32x10, .f32⟩
  | 5 => ⟨S16x48x32x32x1, .f32⟩
  | 6 => ⟨S_, .f32⟩
  | 7 => ⟨S16x48x32x32x1, .f32⟩
  | 8 => ⟨S16x48x32x32x1, .f32⟩
  | 9 => ⟨S16x48x32x32x11, .f32⟩
  | 10 => ⟨S16x48x32x32x1, .f32⟩
  | 11 => ⟨S16x48x32x32x11, .f32⟩
  | 12 => ⟨S16x48x32x32x11, .i1⟩
  | 13 => ⟨S16x48x32x32x11, .i32⟩
  | 14 => ⟨S_, .i32⟩
  | 15 => ⟨S16x48x32x32, .i32⟩
  | 16 => ⟨S_, .i32⟩
  | 17 => ⟨S16x48x32x32, .i32⟩
  | 18 => ⟨S16x48x32x32, .i32⟩
  | 19 => ⟨S_, .i32⟩
  | 20 => ⟨S_, .i32⟩
  | 21 => ⟨S_, .i32⟩
  | 22 => ⟨S16x48x32x32, .i32⟩
  | 23 => ⟨S16x48x32x32, .i32⟩
  | 24 => ⟨S_, .i32⟩
  | 25 => ⟨S16x48x32x32, .i32⟩
  | 26 => ⟨S16x48x32x32, .i32⟩
  | 27 => ⟨S16x48x32x32x1, .i32⟩
  | 28 => ⟨S16x48x32x32x10, .f32⟩
  | 29 => ⟨S_, .i32⟩
  | 30 => ⟨S16x48x32x32x1, .i32⟩
  | 31 => ⟨S16x48x32x32x1, .i1⟩
  | 32 => ⟨S_, .i32⟩
  | 33 => ⟨S16x48x32x32x1, .i32⟩
  | 34 => ⟨S16x48x32x32x1, .i32⟩
  | 35 => ⟨S16x48x32x32x1, .i32⟩
  | 36 => ⟨S16x48x32x32x1x1, .i32⟩
  | 37 => ⟨S1, .i32⟩
  | 38 => ⟨S_, .i32⟩
  | 39 => ⟨S16x48x32x32x1x1, .i32⟩
  | 40 => ⟨S16x48x32x32x1x1, .i1⟩
  | 41 => ⟨S1x1x1x1x1x1, .i32⟩
  | 42 => ⟨S16x48x32x32x1x1, .i32⟩
  | 43 => ⟨S16x48x32x32x1x1, .i1⟩
  | 44 => ⟨S16x48x32x32x1x1, .i1⟩
  | 45 => ⟨S_, .i1⟩
  | 46 => ⟨S16x48x32x32x1, .i1⟩
  | 47 => ⟨S16x48x32x32x1, .f32⟩
  | 48 => ⟨S_, .f32⟩
  | 49 => ⟨S16x48x32x32x1, .f32⟩
  | 50 => ⟨S16x48x32x32x1, .f32⟩
  | 51 => ⟨S16x48x32x32, .f32⟩
  | 52 => ⟨S_, .i32⟩
  | 53 => ⟨S16x48x32x32x1, .i32⟩
  | 54 => ⟨S16x48x32x32x1, .i1⟩
  | 55 => ⟨S_, .i32⟩
  | 56 => ⟨S16x48x32x32x1, .i32⟩
  | 57 => ⟨S16x48x32x32x1, .i32⟩
  | 58 => ⟨S16x48x32x32x1, .i32⟩
  | 59 => ⟨S16x48x32x32x1x1, .i32⟩
  | 60 => ⟨S1, .i32⟩
  | 61 => ⟨S_, .i32⟩
  | 62 => ⟨S16x48x32x32x1x1, .i32⟩
  | 63 => ⟨S16x48x32x32x1x1, .i1⟩
  | 64 => ⟨S1x1x1x1x1x1, .i32⟩
  | 65 => ⟨S16x48x32x32x1x1, .i32⟩
  | 66 => ⟨S16x48x32x32x1x1, .i1⟩
  | 67 => ⟨S16x48x32x32x1x1, .i1⟩
  | 68 => ⟨S_, .i1⟩
  | 69 => ⟨S16x48x32x32x1, .i1⟩
  | 70 => ⟨S16x48x32x32x1, .f32⟩
  | 71 => ⟨S_, .f32⟩
  | 72 => ⟨S16x48x32x32x1, .f32⟩
  | 73 => ⟨S16x48x32x32x1, .f32⟩
  | 74 => ⟨S16x48x32x32, .f32⟩
  | 75 => ⟨S16x48x32x32x10, .f32⟩
  | 76 => ⟨S_, .i32⟩
  | 77 => ⟨S16x48x32x32x1, .i32⟩
  | 78 => ⟨S16x48x32x32x1, .i1⟩
  | 79 => ⟨S_, .i32⟩
  | 80 => ⟨S16x48x32x32x1, .i32⟩
  | 81 => ⟨S16x48x32x32x1, .i32⟩
  | 82 => ⟨S16x48x32x32x1, .i32⟩
  | 83 => ⟨S16x48x32x32x1x1, .i32⟩
  | 84 => ⟨S1, .i32⟩
  | 85 => ⟨S_, .i32⟩
  | 86 => ⟨S16x48x32x32x1x1, .i32⟩
  | 87 => ⟨S16x48x32x32x1x1, .i1⟩
  | 88 => ⟨S1x1x1x1x1x1, .i32⟩
  | 89 => ⟨S16x48x32x32x1x1, .i32⟩
  | 90 => ⟨S16x48x32x32x1x1, .i1⟩
  | 91 => ⟨S16x48x32x32x1x1, .i1⟩
  | 92 => ⟨S_, .i1⟩
  | 93 => ⟨S16x48x32x32x1, .i1⟩
  | 94 => ⟨S16x48x32x32x1, .f32⟩
  | 95 => ⟨S_, .f32⟩
  | 96 => ⟨S16x48x32x32x1, .f32⟩
  | 97 => ⟨S16x48x32x32x1, .f32⟩
  | 98 => ⟨S16x48x32x32, .f32⟩
  | 99 => ⟨S16x48x32x32x10, .f32⟩
  | 100 => ⟨S_, .i32⟩
  | 101 => ⟨S16x48x32x32x1, .i32⟩
  | 102 => ⟨S16x48x32x32x1, .i1⟩
  | 103 => ⟨S_, .i32⟩
  | 104 => ⟨S16x48x32x32x1, .i32⟩
  | 105 => ⟨S16x48x32x32x1, .i32⟩
  | 106 => ⟨S16x48x32x32x1, .i32⟩
  | 107 => ⟨S16x48x32x32x1x1, .i32⟩
  | 108 => ⟨S1, .i32⟩
  | 109 => ⟨S_, .i32⟩
  | 110 => ⟨S16x48x32x32x1x1, .i32⟩
  | 111 => ⟨S16x48x32x32x1x1, .i1⟩
  | 112 => ⟨S1x1x1x1x1x1, .i32⟩
  | 113 => ⟨S16x48x32x32x1x1, .i32⟩
  | 114 => ⟨S16x48x32x32x1x1, .i1⟩
  | 115 => ⟨S16x48x32x32x1x1, .i1⟩
  | 116 => ⟨S_, .i1⟩
  | 117 => ⟨S16x48x32x32x1, .i1⟩
  | 118 => ⟨S16x48x32x32x1, .f32⟩
  | 119 => ⟨S_, .f32⟩
  | 120 => ⟨S16x48x32x32x1, .f32⟩
  | 121 => ⟨S16x48x32x32x1, .f32⟩
  | 122 => ⟨S16x48x32x32, .f32⟩
  | 123 => ⟨S16x48x32x32x10, .f32⟩
  | 124 => ⟨S_, .i32⟩
  | 125 => ⟨S16x48x32x32x1, .i32⟩
  | 126 => ⟨S16x48x32x32x1, .i1⟩
  | 127 => ⟨S_, .i32⟩
  | _ => ⟨S16x96x32x32, .f32⟩

abbrev hbmTy0_2 (i : Nat) : BufTy := match i % 128 with
  | 0 => ⟨S16x48x32x32x1, .i32⟩
  | 1 => ⟨S16x48x32x32x1, .i32⟩
  | 2 => ⟨S16x48x32x32x1, .i32⟩
  | 3 => ⟨S16x48x32x32x1x1, .i32⟩
  | 4 => ⟨S1, .i32⟩
  | 5 => ⟨S_, .i32⟩
  | 6 => ⟨S16x48x32x32x1x1, .i32⟩
  | 7 => ⟨S16x48x32x32x1x1, .i1⟩
  | 8 => ⟨S1x1x1x1x1x1, .i32⟩
  | 9 => ⟨S16x48x32x32x1x1, .i32⟩
  | 10 => ⟨S16x48x32x32x1x1, .i1⟩
  | 11 => ⟨S16x48x32x32x1x1, .i1⟩
  | 12 => ⟨S_, .i1⟩
  | 13 => ⟨S16x48x32x32x1, .i1⟩
  | 14 => ⟨S16x48x32x32x1, .f32⟩
  | 15 => ⟨S_, .f32⟩
  | 16 => ⟨S16x48x32x32x1, .f32⟩
  | 17 => ⟨S16x48x32x32x1, .f32⟩
  | 18 => ⟨S16x48x32x32, .f32⟩
  | 19 => ⟨S16x48x32x32x10, .f32⟩
  | 20 => ⟨S_, .i32⟩
  | 21 => ⟨S16x48x32x32x1, .i32⟩
  | 22 => ⟨S16x48x32x32x1, .i1⟩
  | 23 => ⟨S_, .i32⟩
  | 24 => ⟨S16x48x32x32x1, .i32⟩
  | 25 => ⟨S16x48x32x32x1, .i32⟩
  | 26 => ⟨S16x48x32x32x1, .i32⟩
  | 27 => ⟨S16x48x32x32x1x1, .i32⟩
  | 28 => ⟨S1, .i32⟩
  | 29 => ⟨S_, .i32⟩
  | 30 => ⟨S16x48x32x32x1x1, .i32⟩
  | 31 => ⟨S16x48x32x32x1x1, .i1⟩
  | 32 => ⟨S1x1x1x1x1x1, .i32⟩
  | 33 => ⟨S16x48x32x32x1x1, .i32⟩
  | 34 => ⟨S16x48x32x32x1x1, .i1⟩
  | 35 => ⟨S16x48x32x32x1x1, .i1⟩
  | 36 => ⟨S_, .i1⟩
  | 37 => ⟨S16x48x32x32x1, .i1⟩
  | 38 => ⟨S16x48x32x32x1, .f32⟩
  | 39 => ⟨S_, .f32⟩
  | 40 => ⟨S16x48x32x32x1, .f32⟩
  | 41 => ⟨S16x48x32x32x1, .f32⟩
  | 42 => ⟨S16x48x32x32, .f32⟩
  | 43 => ⟨S_, .i32⟩
  | 44 => ⟨S16x48x32x32x1, .i32⟩
  | 45 => ⟨S16x48x32x32x1, .i1⟩
  | 46 => ⟨S_, .i32⟩
  | 47 => ⟨S16x48x32x32x1, .i32⟩
  | 48 => ⟨S16x48x32x32x1, .i32⟩
  | 49 => ⟨S16x48x32x32x1, .i32⟩
  | 50 => ⟨S16x48x32x32x1x1, .i32⟩
  | 51 => ⟨S1, .i32⟩
  | 52 => ⟨S_, .i32⟩
  | 53 => ⟨S16x48x32x32x1x1, .i32⟩
  | 54 => ⟨S16x48x32x32x1x1, .i1⟩
  | 55 => ⟨S1x1x1x1x1x1, .i32⟩
  | 56 => ⟨S16x48x32x32x1x1, .i32⟩
  | 57 => ⟨S16x48x32x32x1x1, .i1⟩
  | 58 => ⟨S16x48x32x32x1x1, .i1⟩
  | 59 => ⟨S_, .i1⟩
  | 60 => ⟨S16x48x32x32x1, .i1⟩
  | 61 => ⟨S16x48x32x32x1, .f32⟩
  | 62 => ⟨S_, .f32⟩
  | 63 => ⟨S16x48x32x32x1, .f32⟩
  | 64 => ⟨S16x48x32x32x1, .f32⟩
  | 65 => ⟨S16x48x32x32, .f32⟩
  | 66 => ⟨S16x48x32x32, .f32⟩
  | 67 => ⟨S16x48x32x32, .f32⟩
  | 68 => ⟨S_, .f32⟩
  | 69 => ⟨S16x48x32x32, .f32⟩
  | 70 => ⟨S16x48x32x32, .f32⟩
  | 71 => ⟨S16x48x32x32, .f32⟩
  | 72 => ⟨S16x48x32x32, .f32⟩
  | 73 => ⟨S16x48x32x32, .f32⟩
  | 74 => ⟨S16x48x32x32, .f32⟩
  | 75 => ⟨S16x48x32x32, .f32⟩
  | 76 => ⟨S16x48x32x32, .f32⟩
  | 77 => ⟨S16x48x32x32, .f32⟩
  | 78 => ⟨S_, .f32⟩
  | 79 => ⟨S16x48x32x32, .f32⟩
  | 80 => ⟨S16x48x32x32, .f32⟩
  | 81 => ⟨S16x48x32x32, .f32⟩
  | 82 => ⟨S16x48x32x32, .f32⟩
  | 83 => ⟨S16x48x32x32, .f32⟩
  | 84 => ⟨S16x48x32x32, .f32⟩
  | 85 => ⟨S16x48x32x32, .f32⟩
  | 86 => ⟨S16x48x32x32, .f32⟩
  | 87 => ⟨S16x48x32x32, .f32⟩
  | 88 => ⟨S16x48x32x32, .f32⟩
  | 89 => ⟨S_, .f32⟩
  | 90 => ⟨S16x48x32x32, .f32⟩
  | 91 => ⟨S16x48x32x32, .f32⟩
  | 92 => ⟨S16x48x32x32, .f32⟩
  | 93 => ⟨S16x48x32x32, .f32⟩
  | 94 => ⟨S_, .f32⟩
  | 95 => ⟨S16x48x32x32, .f32⟩
  | 96 => ⟨S16x48x32x32, .f32⟩
  | 97 => ⟨S16x48x32x32, .f32⟩
  | 98 => ⟨S16x48x32x32, .f32⟩
  | 99 => ⟨S16x48x32x32, .f32⟩
  | 100 => ⟨S16x48x32x32, .f32⟩
  | 101 => ⟨S16x48x32x32, .f32⟩
  | 102 => ⟨S16x48x32x32, .f32⟩
  | 103 => ⟨S_, .f32⟩
  | 104 => ⟨S16x48x32x32, .f32⟩
  | 105 => ⟨S16x48x32x32, .f32⟩
  | 106 => ⟨S16x48x32x32, .f32⟩
  | 107 => ⟨S16x48x32x32, .f32⟩
  | 108 => ⟨S_, .f32⟩
  | 109 => ⟨S16x48x32x32, .f32⟩
  | 110 => ⟨S16x48x32x32, .f32⟩
  | 111 => ⟨S16x96x32x32, .f32⟩
  | 112 => ⟨S_, .f32⟩
  | 113 => ⟨S16, .f32⟩
  | _ => ⟨S16x96x32x32, .f32⟩

abbrev hbmTy (i : Nat) : BufTy := match i / 128 with
  | 0 => hbmTy0_0 i
  | 1 => hbmTy0_1 i
  | 2 => hbmTy0_2 i
  | _ => ⟨S16x96x32x32, .f32⟩

abbrev bufTy : (tb : Table) → Fin (tcTables nBuf tb) → BufTy
  | .hbm, ⟨i, _⟩ => hbmTy i
  | _, _ => ⟨S16x96x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_call1_call0_cst : Ref sig .tc := ⟨.hbm, 59, rfl⟩
abbrev main_call1_call0_v0 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_cst_12 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_v52 : Ref sig .tc := ⟨.hbm, 90, rfl⟩
abbrev main_cst_14 : Ref sig .tc := ⟨.hbm, 91, rfl⟩
abbrev main_v53 : Ref sig .tc := ⟨.hbm, 92, rfl⟩
abbrev main_v54 : Ref sig .tc := ⟨.hbm, 93, rfl⟩
abbrev main_cst_15 : Ref sig .tc := ⟨.hbm, 94, rfl⟩
abbrev main_v55 : Ref sig .tc := ⟨.hbm, 95, rfl⟩
abbrev main_cst_16 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_17 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_18 : Ref sig .tc := ⟨.hbm, 108, rfl⟩
abbrev main_v66 : Ref sig .tc := ⟨.hbm, 109, rfl⟩
abbrev main_v67 : Ref sig .tc := ⟨.hbm, 110, rfl⟩
abbrev main_cst_19 : Ref sig .tc := ⟨.hbm, 111, rfl⟩
abbrev main_v68 : Ref sig .tc := ⟨.hbm, 112, rfl⟩
abbrev main_v69 : Ref sig .tc := ⟨.hbm, 113, rfl⟩
abbrev main_call3_call0_cst : Ref sig .tc := ⟨.hbm, 114, rfl⟩
abbrev main_call3_call0_v0 : Ref sig .tc := ⟨.hbm, 115, rfl⟩
abbrev main_v70 : Ref sig .tc := ⟨.hbm, 116, rfl⟩
abbrev main_cst_20 : Ref sig .tc := ⟨.hbm, 117, rfl⟩
abbrev main_v71 : Ref sig .tc := ⟨.hbm, 118, rfl⟩
abbrev main_v72 : Ref sig .tc := ⟨.hbm, 119, rfl⟩
abbrev main_cst_21 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_22 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_23 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c : Ref sig .tc := ⟨.hbm, 142, rfl⟩
abbrev main_v92 : Ref sig .tc := ⟨.hbm, 143, rfl⟩
abbrev main_c_24 : Ref sig .tc := ⟨.hbm, 144, rfl⟩
abbrev main_v93 : Ref sig .tc := ⟨.hbm, 145, rfl⟩
abbrev main_v94 : Ref sig .tc := ⟨.hbm, 146, rfl⟩
abbrev main_c_25 : Ref sig .tc := ⟨.hbm, 147, rfl⟩
abbrev main_c_26 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_call5_c : Ref sig .tc := ⟨.hbm, 157, rfl⟩
abbrev main_call5_v0 : Ref sig .tc := ⟨.hbm, 158, rfl⟩
abbrev main_call5_v1 : Ref sig .tc := ⟨.hbm, 159, rfl⟩
abbrev main_call5_c_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_c_1 : Ref sig .tc := ⟨.hbm, 165, rfl⟩
abbrev main_call5_c_2 : Ref sig .tc := ⟨.hbm, 166, rfl⟩
abbrev main_call5_v6 : Ref sig .tc := ⟨.hbm, 167, rfl⟩
abbrev main_call5_v7 : Ref sig .tc := ⟨.hbm, 168, rfl⟩
abbrev main_call5_v8 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_c_3 : Ref sig .tc := ⟨.hbm, 173, rfl⟩
abbrev main_call5_v12 : Ref sig .tc := ⟨.hbm, 174, rfl⟩
abbrev main_call5_v13 : Ref sig .tc := ⟨.hbm, 175, rfl⟩
abbrev main_call5_cst : Ref sig .tc := ⟨.hbm, 176, rfl⟩
abbrev main_call5_v14 : Ref sig .tc := ⟨.hbm, 177, rfl⟩
abbrev main_v98 : Ref sig .tc := ⟨.hbm, 178, rfl⟩
abbrev main_v99 : Ref sig .tc := ⟨.hbm, 179, rfl⟩
abbrev main_call6_c : Ref sig .tc := ⟨.hbm, 180, rfl⟩
abbrev main_call6_v0 : Ref sig .tc := ⟨.hbm, 181, rfl⟩
abbrev main_call6_v1 : Ref sig .tc := ⟨.hbm, 182, rfl⟩
abbrev main_call6_c_0 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_call6_v5 : Ref sig .tc := ⟨.hbm, 187, rfl⟩
abbrev main_call6_c_1 : Ref sig .tc := ⟨.hbm, 188, rfl⟩
abbrev main_call6_c_2 : Ref sig .tc := ⟨.hbm, 189, rfl⟩
abbrev main_call6_v6 : Ref sig .tc := ⟨.hbm, 190, rfl⟩
abbrev main_call6_v7 : Ref sig .tc := ⟨.hbm, 191, rfl⟩
abbrev main_call6_v8 : Ref sig .tc := ⟨.hbm, 192, rfl⟩
abbrev main_call6_v9 : Ref sig .tc := ⟨.hbm, 193, rfl⟩
abbrev main_call6_v10 : Ref sig .tc := ⟨.hbm, 194, rfl⟩
abbrev main_call6_v11 : Ref sig .tc := ⟨.hbm, 195, rfl⟩
abbrev main_call6_c_3 : Ref sig .tc := ⟨.hbm, 196, rfl⟩
abbrev main_call6_v12 : Ref sig .tc := ⟨.hbm, 197, rfl⟩
abbrev main_call6_v13 : Ref sig .tc := ⟨.hbm, 198, rfl⟩
abbrev main_call6_cst : Ref sig .tc := ⟨.hbm, 199, rfl⟩
abbrev main_call6_v14 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_cst : Ref sig .tc := ⟨.hbm, 223, rfl⟩
abbrev main_call7_v14 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_call8_c : Ref sig .tc := ⟨.hbm, 228, rfl⟩
abbrev main_call8_v0 : Ref sig .tc := ⟨.hbm, 229, rfl⟩
abbrev main_call8_v1 : Ref sig .tc := ⟨.hbm, 230, rfl⟩
abbrev main_call8_c_0 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_call8_v5 : Ref sig .tc := ⟨.hbm, 235, rfl⟩
abbrev main_call8_c_1 : Ref sig .tc := ⟨.hbm, 236, rfl⟩
abbrev main_call8_c_2 : Ref sig .tc := ⟨.hbm, 237, rfl⟩
abbrev main_call8_v6 : Ref sig .tc := ⟨.hbm, 238, rfl⟩
abbrev main_call8_v7 : Ref sig .tc := ⟨.hbm, 239, rfl⟩
abbrev main_call8_v8 : Ref sig .tc := ⟨.hbm, 240, rfl⟩
abbrev main_call8_v9 : Ref sig .tc := ⟨.hbm, 241, rfl⟩
abbrev main_call8_v10 : Ref sig .tc := ⟨.hbm, 242, rfl⟩
abbrev main_call8_v11 : Ref sig .tc := ⟨.hbm, 243, rfl⟩
abbrev main_call8_c_3 : Ref sig .tc := ⟨.hbm, 244, rfl⟩
abbrev main_call8_v12 : Ref sig .tc := ⟨.hbm, 245, rfl⟩
abbrev main_call8_v13 : Ref sig .tc := ⟨.hbm, 246, rfl⟩
abbrev main_call8_cst : Ref sig .tc := ⟨.hbm, 247, rfl⟩
abbrev main_call8_v14 : Ref sig .tc := ⟨.hbm, 248, rfl⟩
abbrev main_v106 : Ref sig .tc := ⟨.hbm, 249, rfl⟩
abbrev main_v107 : Ref sig .tc := ⟨.hbm, 250, rfl⟩
abbrev main_v108 : Ref sig .tc := ⟨.hbm, 251, rfl⟩
abbrev main_call9_c : Ref sig .tc := ⟨.hbm, 252, rfl⟩
abbrev main_call9_v0 : Ref sig .tc := ⟨.hbm, 253, rfl⟩
abbrev main_call9_v1 : Ref sig .tc := ⟨.hbm, 254, rfl⟩
abbrev main_call9_c_0 : Ref sig .tc := ⟨.hbm, 255, rfl⟩
abbrev main_call9_v2 : Ref sig .tc := ⟨.hbm, 256, rfl⟩
abbrev main_call9_v3 : Ref sig .tc := ⟨.hbm, 257, rfl⟩
abbrev main_call9_v4 : Ref sig .tc := ⟨.hbm, 258, rfl⟩
abbrev main_call9_v5 : Ref sig .tc := ⟨.hbm, 259, rfl⟩
abbrev main_call9_c_1 : Ref sig .tc := ⟨.hbm, 260, rfl⟩
abbrev main_call9_c_2 : Ref sig .tc := ⟨.hbm, 261, rfl⟩
abbrev main_call9_v6 : Ref sig .tc := ⟨.hbm, 262, rfl⟩
abbrev main_call9_v7 : Ref sig .tc := ⟨.hbm, 263, rfl⟩
abbrev main_call9_v8 : Ref sig .tc := ⟨.hbm, 264, rfl⟩
abbrev main_call9_v9 : Ref sig .tc := ⟨.hbm, 265, rfl⟩
abbrev main_call9_v10 : Ref sig .tc := ⟨.hbm, 266, rfl⟩
abbrev main_call9_v11 : Ref sig .tc := ⟨.hbm, 267, rfl⟩
abbrev main_call9_c_3 : Ref sig .tc := ⟨.hbm, 268, rfl⟩
abbrev main_call9_v12 : Ref sig .tc := ⟨.hbm, 269, rfl⟩
abbrev main_call9_v13 : Ref sig .tc := ⟨.hbm, 270, rfl⟩
abbrev main_call9_cst : Ref sig .tc := ⟨.hbm, 271, rfl⟩
abbrev main_call9_v14 : Ref sig .tc := ⟨.hbm, 272, rfl⟩
abbrev main_v109 : Ref sig .tc := ⟨.hbm, 273, rfl⟩
abbrev main_v110 : Ref sig .tc := ⟨.hbm, 274, rfl⟩
abbrev main_v111 : Ref sig .tc := ⟨.hbm, 275, rfl⟩
abbrev main_call10_c : Ref sig .tc := ⟨.hbm, 276, rfl⟩
abbrev main_call10_v0 : Ref sig .tc := ⟨.hbm, 277, rfl⟩
abbrev main_call10_v1 : Ref sig .tc := ⟨.hbm, 278, rfl⟩
abbrev main_call10_c_0 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_c_1 : Ref sig .tc := ⟨.hbm, 284, rfl⟩
abbrev main_call10_c_2 : Ref sig .tc := ⟨.hbm, 285, rfl⟩
abbrev main_call10_v6 : Ref sig .tc := ⟨.hbm, 286, rfl⟩
abbrev main_call10_v7 : Ref sig .tc := ⟨.hbm, 287, rfl⟩
abbrev main_call10_v8 : Ref sig .tc := ⟨.hbm, 288, rfl⟩
abbrev main_call10_v9 : Ref sig .tc := ⟨.hbm, 289, rfl⟩
abbrev main_call10_v10 : Ref sig .tc := ⟨.hbm, 290, rfl⟩
abbrev main_call10_v11 : Ref sig .tc := ⟨.hbm, 291, rfl⟩
abbrev main_call10_c_3 : Ref sig .tc := ⟨.hbm, 292, rfl⟩
abbrev main_call10_v12 : Ref sig .tc := ⟨.hbm, 293, rfl⟩
abbrev main_call10_v13 : Ref sig .tc := ⟨.hbm, 294, rfl⟩
abbrev main_call10_cst : Ref sig .tc := ⟨.hbm, 295, rfl⟩
abbrev main_call10_v14 : Ref sig .tc := ⟨.hbm, 296, rfl⟩
abbrev main_v112 : Ref sig .tc := ⟨.hbm, 297, rfl⟩
abbrev main_v113 : Ref sig .tc := ⟨.hbm, 298, rfl⟩
abbrev main_call11_c : Ref sig .tc := ⟨.hbm, 299, rfl⟩
abbrev main_call11_v0 : Ref sig .tc := ⟨.hbm, 300, rfl⟩
abbrev main_call11_v1 : Ref sig .tc := ⟨.hbm, 301, rfl⟩
abbrev main_call11_c_0 : Ref sig .tc := ⟨.hbm, 302, rfl⟩
abbrev main_call11_v2 : Ref sig .tc := ⟨.hbm, 303, rfl⟩
abbrev main_call11_v3 : Ref sig .tc := ⟨.hbm, 304, rfl⟩
abbrev main_call11_v4 : Ref sig .tc := ⟨.hbm, 305, rfl⟩
abbrev main_call11_v5 : Ref sig .tc := ⟨.hbm, 306, rfl⟩
abbrev main_call11_c_1 : Ref sig .tc := ⟨.hbm, 307, rfl⟩
abbrev main_call11_c_2 : Ref sig .tc := ⟨.hbm, 308, rfl⟩
abbrev main_call11_v6 : Ref sig .tc := ⟨.hbm, 309, rfl⟩
abbrev main_call11_v7 : Ref sig .tc := ⟨.hbm, 310, rfl⟩
abbrev main_call11_v8 : Ref sig .tc := ⟨.hbm, 311, rfl⟩
abbrev main_call11_v9 : Ref sig .tc := ⟨.hbm, 312, rfl⟩
abbrev main_call11_v10 : Ref sig .tc := ⟨.hbm, 313, rfl⟩
abbrev main_call11_v11 : Ref sig .tc := ⟨.hbm, 314, rfl⟩
abbrev main_call11_c_3 : Ref sig .tc := ⟨.hbm, 315, rfl⟩
abbrev main_call11_v12 : Ref sig .tc := ⟨.hbm, 316, rfl⟩
abbrev main_call11_v13 : Ref sig .tc := ⟨.hbm, 317, rfl⟩
abbrev main_call11_cst : Ref sig .tc := ⟨.hbm, 318, rfl⟩
abbrev main_call11_v14 : Ref sig .tc := ⟨.hbm, 319, rfl⟩
abbrev main_v114 : Ref sig .tc := ⟨.hbm, 320, rfl⟩
abbrev main_v115 : Ref sig .tc := ⟨.hbm, 321, rfl⟩
abbrev main_v116 : Ref sig .tc := ⟨.hbm, 322, rfl⟩
abbrev main_v117 : Ref sig .tc := ⟨.hbm, 323, rfl⟩
abbrev main_cst_27 : Ref sig .tc := ⟨.hbm, 324, rfl⟩
abbrev main_v118 : Ref sig .tc := ⟨.hbm, 325, rfl⟩
abbrev main_v119 : Ref sig .tc := ⟨.hbm, 326, rfl⟩
abbrev main_v120 : Ref sig .tc := ⟨.hbm, 327, rfl⟩
abbrev main_v121 : Ref sig .tc := ⟨.hbm, 328, rfl⟩
abbrev main_v122 : Ref sig .tc := ⟨.hbm, 329, rfl⟩
abbrev main_v123 : Ref sig .tc := ⟨.hbm, 330, rfl⟩
abbrev main_v124 : Ref sig .tc := ⟨.hbm, 331, rfl⟩
abbrev main_v125 : Ref sig .tc := ⟨.hbm, 332, rfl⟩
abbrev main_v126 : Ref sig .tc := ⟨.hbm, 333, rfl⟩
abbrev main_cst_28 : Ref sig .tc := ⟨.hbm, 334, rfl⟩
abbrev main_v127 : Ref sig .tc := ⟨.hbm, 335, rfl⟩
abbrev main_v128 : Ref sig .tc := ⟨.hbm, 336, rfl⟩
abbrev main_v129 : Ref sig .tc := ⟨.hbm, 337, rfl⟩
abbrev main_v130 : Ref sig .tc := ⟨.hbm, 338, rfl⟩
abbrev main_v131 : Ref sig .tc := ⟨.hbm, 339, rfl⟩
abbrev main_v132 : Ref sig .tc := ⟨.hbm, 340, rfl⟩
abbrev main_v133 : Ref sig .tc := ⟨.hbm, 341, rfl⟩
abbrev main_v134 : Ref sig .tc := ⟨.hbm, 342, rfl⟩
abbrev main_v135 : Ref sig .tc := ⟨.hbm, 343, rfl⟩
abbrev main_v136 : Ref sig .tc := ⟨.hbm, 344, rfl⟩
abbrev main_cst_29 : Ref sig .tc := ⟨.hbm, 345, rfl⟩
abbrev main_v137 : Ref sig .tc := ⟨.hbm, 346, rfl⟩
abbrev main_v138 : Ref sig .tc := ⟨.hbm, 347, rfl⟩
abbrev main_v139 : Ref sig .tc := ⟨.hbm, 348, rfl⟩
abbrev main_v140 : Ref sig .tc := ⟨.hbm, 349, rfl⟩
abbrev main_cst_30 : Ref sig .tc := ⟨.hbm, 350, rfl⟩
abbrev main_v141 : Ref sig .tc := ⟨.hbm, 351, rfl⟩
abbrev main_v142 : Ref sig .tc := ⟨.hbm, 352, rfl⟩
abbrev main_v143 : Ref sig .tc := ⟨.hbm, 353, rfl⟩
abbrev main_v144 : Ref sig .tc := ⟨.hbm, 354, rfl⟩
abbrev main_v145 : Ref sig .tc := ⟨.hbm, 355, rfl⟩
abbrev main_v146 : Ref sig .tc := ⟨.hbm, 356, rfl⟩
abbrev main_v147 : Ref sig .tc := ⟨.hbm, 357, rfl⟩
abbrev main_v148 : Ref sig .tc := ⟨.hbm, 358, rfl⟩
abbrev main_cst_31 : Ref sig .tc := ⟨.hbm, 359, rfl⟩
abbrev main_v149 : Ref sig .tc := ⟨.hbm, 360, rfl⟩
abbrev main_v150 : Ref sig .tc := ⟨.hbm, 361, rfl⟩
abbrev main_v151 : Ref sig .tc := ⟨.hbm, 362, rfl⟩
abbrev main_v152 : Ref sig .tc := ⟨.hbm, 363, rfl⟩
abbrev main_cst_32 : Ref sig .tc := ⟨.hbm, 364, rfl⟩
abbrev main_v153 : Ref sig .tc := ⟨.hbm, 365, rfl⟩
abbrev main_v154 : Ref sig .tc := ⟨.hbm, 366, rfl⟩
abbrev main_v155 : Ref sig .tc := ⟨.hbm, 367, rfl⟩
abbrev main_cst_33 : Ref sig .tc := ⟨.hbm, 368, rfl⟩
abbrev main_v156 : Ref sig .tc := ⟨.hbm, 369, rfl⟩

abbrev nD : Nat := 1
abbrev τ : Topo := Topo.v7x

variable {F : FTy → Type} [FloatOps F]
-- ==== Proof.Chunk.lean ====
/-
  One chunk of the kernel as a function of its slices.

  The kernel body handles the transform half in 48 chunks of eight rows and 128 columns, and does the same
  arithmetic in each: ten steps along the knots of the spline that keep the bin of `x`, then the rational
  quadratic of that bin. Here the chunk is written once, as a recursion over the knots, and the body's stores
  as a recursion over the chunks; the last two theorems say that the run's stores are these.
-/
module

public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

variable {F : FTy → Type} [FloatOps F]

section
variable {s : Shape}

/-- A constant vector. -/
abbrev bc (s : Shape) (b : BitVec 32) : FVec F s .f32 := broadcast s (Scalar.ofBits .f32 b)

/-- What the walk along the knots holds: the next knot of the columns and of the rows, the slope there, and the bin
    kept so far (its left knot, width, bottom, height and the two slopes at its ends). -/
structure Walk (F : FTy → Type) (s : Shape) where
  cw : FVec F s .f32
  ch : FVec F s .f32
  d : FVec F s .f32
  aCw : FVec F s .f32
  aW : FVec F s .f32
  aCh : FVec F s .f32
  aH : FVec F s .f32
  aD : FVec F s .f32
  aD1 : FVec F s .f32

/-- The first bin: it starts at the left end, with slope one. -/
def first (w h d : FVec F s .f32) : Walk F s where
  cw := addf (bc s 0xBF800000#32) w
  ch := addf (bc s 0xBF800000#32) h
  d := d
  aCw := bc s 0xBF800000#32
  aW := w
  aCh := bc s 0xBF800000#32
  aH := h
  aD := bc s 0x3F800000#32
  aD1 := d

/-- The bin that starts at the walk's knot, of width `w`, height `h` and right slope `d`, is kept where `x` has
    reached that knot. -/
def keep (x w h d : FVec F s .f32) (a : Walk F s) : Walk F s where
  cw := addf a.cw w
  ch := addf a.ch h
  d := d
  aCw := select (cmpf .oge x a.cw) a.cw a.aCw
  aW := select (cmpf .oge x a.cw) w a.aW
  aCh := select (cmpf .oge x a.cw) a.ch a.aCh
  aH := select (cmpf .oge x a.cw) h a.aH
  aD := select (cmpf .oge x a.cw) a.d a.aD
  aD1 := select (cmpf .oge x a.cw) d a.aD1

/-- The sum of the first `n + 1` vectors, from the left. -/
def sumTo (e : ℕ → FVec F s .f32) : ℕ → FVec F s .f32
  | 0 => e 0
  | n + 1 => addf (sumTo e n) (e (n + 1))

/-- What a unit of weight is worth: the free length divided by the sum of the ten weights. -/
def unit (u : ℕ → FVec F s .f32) : FVec F s .f32 :=
  divf (bc s 0x3FE66666#32) (sumTo (fun k => exp (u k)) 9)

/-- The length of bin `k`. -/
def lenOf (u : ℕ → FVec F s .f32) (k : ℕ) : FVec F s .f32 :=
  addf (bc s 0x3CA3D70A#32) (mulf (exp (u k)) (unit u))

/-- The slope at the right end of bin `k`. -/
def slopeOf (u : ℕ → FVec F s .f32) (k : ℕ) : FVec F s .f32 :=
  addf (bc s 0x3C23D70A#32) (log (addf (bc s 0x3F800000#32) (exp (u k))))

/-- The walk after the bins up to `n`. -/
def walk (x : FVec F s .f32) (uw uh ud : ℕ → FVec F s .f32) : ℕ → Walk F s
  | 0 => first (lenOf uw 0) (lenOf uh 0) (slopeOf ud 0)
  | n + 1 => keep x (lenOf uw (n + 1)) (lenOf uh (n + 1)) (slopeOf ud (n + 1)) (walk x uw uh ud n)

/-- The last bin ends at the right end, with slope one. -/
def lastBin (x : FVec F s .f32) (a : Walk F s) : Walk F s :=
  keep x (subf (bc s 0x3F800000#32) a.cw) (subf (bc s 0x3F800000#32) a.ch) (bc s 0x3F800000#32) a

/-- The place of `x` in the kept bin, from zero to one. -/
def place (x : FVec F s .f32) (a : Walk F s) : FVec F s .f32 := divf (subf x a.aCw) a.aW

/-- The place times its complement. -/
def mid (x : FVec F s .f32) (a : Walk F s) : FVec F s .f32 :=
  mulf (place x a) (subf (bc s 0x3F800000#32) (place x a))

/-- The kept bin's mean slope. -/
def rise (a : Walk F s) : FVec F s .f32 := divf a.aH a.aW

/-- The denominator of the kept bin's rational quadratic. -/
def denom (x : FVec F s .f32) (a : Walk F s) : FVec F s .f32 :=
  addf (rise a) (mulf (subf (addf a.aD a.aD1) (mulf (bc s 0x40000000#32) (rise a))) (mid x a))

/-- The kept bin's value at `x`. -/
def valueAt (x : FVec F s .f32) (a : Walk F s) : FVec F s .f32 :=
  addf a.aCh (divf (mulf a.aH (addf (mulf (mulf (rise a) (place x a)) (place x a)) (mulf a.aD (mid x a)))) (denom x a))

/-- The numerator of the kept bin's slope at `x`. -/
def slopeNum (x : FVec F s .f32) (a : Walk F s) : FVec F s .f32 :=
  mulf (mulf (rise a) (rise a))
    (addf
      (addf (mulf (mulf a.aD1 (place x a)) (place x a)) (mulf (mulf (bc s 0x40000000#32) (rise a)) (mid x a)))
      (mulf (mulf a.aD (subf (bc s 0x3F800000#32) (place x a))) (subf (bc s 0x3F800000#32) (place x a))))

/-- The logarithm of the kept bin's slope at `x`. -/
def logSlope (x : FVec F s .f32) (a : Walk F s) : FVec F s .f32 :=
  log (divf (slopeNum x a) (mulf (denom x a) (denom x a)))

/-- Whether `x` lies on the spline's interval. -/
def onSpline (x : FVec F s .f32) : IVec s 1 :=
  andi (cmpf .oge x (bc s 0xBF800000#32)) (cmpf .ole x (bc s 0x3F800000#32))

/-- `x` brought into the spline's interval. -/
def clipped (x : FVec F s .f32) : FVec F s .f32 :=
  minimumf (bc s 0x3F800000#32) (maximumf (bc s 0xBF800000#32) x)

/-- The walk's end: the bin of `x`. -/
def binOf (x : FVec F s .f32) (uw uh ud : ℕ → FVec F s .f32) : Walk F s :=
  lastBin (clipped x) (walk (clipped x) uw uh ud 8)

/-- A chunk's output: the spline on its interval, `x` outside. -/
def chunkOut (x : FVec F s .f32) (uw uh ud : ℕ → FVec F s .f32) : FVec F s .f32 :=
  select (onSpline x) (valueAt (clipped x) (binOf x uw uh ud)) x

/-- A chunk's logarithms: the spline's slope on its interval, zero outside. -/
def chunkLog (x : FVec F s .f32) (uw uh ud : ℕ → FVec F s .f32) : FVec F s .f32 :=
  select (onSpline x) (logSlope (clipped x) (binOf x uw uh ud)) (bc s 0x00000000#32)

end

/-! ## The body's stores -/

/-- A chunk's slice of the parameters lies within them. -/
theorem slices_param (k n : ℕ) (hk : k < 29) :
    S1392x1024.Slices ![48 * k + 8 * (n / 8 % 6), 128 * (n % 8)] S8x128 := by
  refine ⟨rfl, fun a => ?_⟩
  fin_cases a
  · show 48 * k + 8 * (n / 8 % 6) + 8 ≤ 1392; omega
  · show 128 * (n % 8) + 128 ≤ 1024; omega

/-- A chunk's slice of the transform half lies within it. -/
theorem slices_rows (n : ℕ) : S48x1024.Slices ![8 * (n / 8 % 6), 128 * (n % 8)] S8x128 := by
  refine ⟨rfl, fun a => ?_⟩
  fin_cases a
  · show 8 * (n / 8 % 6) + 8 ≤ 48; omega
  · show 128 * (n % 8) + 128 ≤ 1024; omega

/-- A chunk's store lies within the output block. -/
theorem inb_chunk (n : ℕ) (a : Fin 3) :
    (![0, 48 + 8 * (n / 8 % 6), 128 * (n % 8)] : Fin 3 → ℕ) a + S1x8x128.size a ≤ S1x96x1024.size a := by
  fin_cases a
  · show 0 + 1 ≤ 1; omega
  · show 48 + 8 * (n / 8 % 6) + 8 ≤ 96; omega
  · show 128 * (n % 8) + 128 ≤ 1024; omega

variable (A1 A2 : Vec F S1x48x1024 .f32) (A3 : Vec F S1392x48 .f32)

/-- The identity half of a batch row. -/
def idRows : FVec F S48x1024 .f32 := shapeCast S48x1024 A1 shapeCasts_S1x48x1024_S48x1024

/-- The spline parameters: the weights times the identity half. -/
def params : FVec F S1392x1024 .f32 :=
  matmul dot_S1392x48_S48x1024_S1392x1024_1_0_0_1_n_n none
    (shapeCast S1392x48 A3 shapeCasts_S1392x48_S1392x48) (idRows A1) (constant S1392x1024 .f32 0x00000000#32)

/-- Parameter `k` of chunk `n`. -/
def param (n k : ℕ) : FVec F S8x128 .f32 :=
  if hk : k < 29 then
    extractStridedSlice S8x128 ![48 * k + 8 * (n / 8 % 6), 128 * (n % 8)] (params A1 A3) (slices_param k n hk)
  else bc S8x128 0x00000000#32

/-- The transform half's elements of chunk `n`. -/
def rows (n : ℕ) : FVec F S8x128 .f32 :=
  extractStridedSlice S8x128 ![8 * (n / 8 % 6), 128 * (n % 8)]
    (shapeCast S48x1024 A2 shapeCasts_S1x48x1024_S48x1024) (slices_rows n)

/-- What chunk `n` stores. -/
def storeOf (n : ℕ) : FVec F S1x8x128 .f32 :=
  shapeCast S1x8x128
    (chunkOut (rows A2 n) (param A1 A3 n) (fun k => param A1 A3 n (10 + k)) (fun k => param A1 A3 n (20 + k)))
    shapeCasts_S8x128_S1x8x128

/-- The sum of chunk `n`'s logarithms. -/
def logOf (n : ℕ) : F .f32 :=
  extractAt ![0, 0, 0]
    (shapeCast S1x1x1
      (multiReduction .add [1, 2] S1
        (shapeCast S1x8x128
          (chunkLog (rows A2 n) (param A1 A3 n) (fun k => param A1 A3 n (10 + k)) (fun k => param A1 A3 n (20 + k)))
          shapeCasts_S8x128_S1x8x128)
        0x00000000#32 reduces_S1x8x128_S1 (.inl rfl) rfl)
      shapeCasts_S1_S1x1x1) inpos_S1x1x1_p0_0_0

/-- The logarithms of the chunks up to `n`, summed from the left. -/
def logTo : ℕ → F .f32
  | 0 => logOf A1 A2 A3 0
  | n + 1 => Scalar.addf (logTo n) (logOf A1 A2 A3 (n + 1))

/-- The stores into the output block, last first: the first `n` chunks' over the identity half's. -/
def stores : ℕ → List (View.Piece (Elt F) S1x96x1024 .f32)
  | 0 => [⟨Rect.unit ![0, 0, 0] S1x48x1024.size inb_S1x96x1024_S1x48x1024_0_0_0,
      shapeCast S1x48x1024 (idRows A1) shapeCasts_S48x1024_S1x48x1024⟩]
  | n + 1 => ⟨Rect.unit ![0, 48 + 8 * (n / 8 % 6), 128 * (n % 8)] S1x8x128.size (inb_chunk n), storeOf A1 A2 A3 n⟩ :: stores n

/-- The store of the summed logarithms. -/
def logStore : List (View.Piece (Elt F) S1x1x1 .f32) :=
  [⟨Rect.unit ![0, 0, 0] S1x1x1.size inb_S1x1x1_S1x1x1_0_0_0, broadcast S1x1x1 (logTo A1 A2 A3 47)⟩]

section
variable (c : Dev nD) (i : grid0.Coords) (arg1 : Memref sig .tc .vmem S1x48x1024 .f32) (harg1 : arg1.IsWhole)
  (arg2 : Memref sig .tc .vmem S1x48x1024 .f32) (harg2 : arg2.IsWhole)
  (arg3 : Memref sig .tc .vmem S1392x48 .f32) (harg3 : arg3.IsWhole)
  (arg4 : Memref sig .tc .vmem S1x96x1024 .f32) (harg4 : arg4.IsWhole)
  (arg5 : Memref sig .tc .vmem S1x1x1 .f32) (harg5 : arg5.IsWhole)
  (x0 : Vec F S1x48x1024 .f32) (x1 : Vec F S1x48x1024 .f32) (x2 : Vec F S1392x48 .f32)

/-- A whole buffer of the first two inputs, read. -/
abbrev readBlock (arg : Memref sig .tc .vmem S1x48x1024 .f32) (harg : arg.IsWhole) (x : Vec F S1x48x1024 .f32) :
    Vec F S1x48x1024 .f32 :=
  View.readAt (Elt F) arg.view (Rect.unit ![0, 0, 0] S1x48x1024.size inb_S1x48x1024_S1x48x1024_0_0_0).toLoadRect (harg.unread x)

/-- The whole buffer of the weights, read. -/
abbrev readWeights (arg : Memref sig .tc .vmem S1392x48 .f32) (harg : arg.IsWhole) (x : Vec F S1392x48 .f32) :
    Vec F S1392x48 .f32 :=
  View.readAt (Elt F) arg.view (Rect.unit ![0, 0] S1392x48.size inb_S1392x48_S1392x48_0_0).toLoadRect (harg.unread x)

set_option maxHeartbeats 4000000 in
/-- The body stores the summed logarithms, as stated above. -/
theorem run_logStore :
    (kernelRun0_A c i arg1 harg1 arg2 harg2 arg3 harg3 arg4 harg4 arg5 harg5 x0 x1 x2).2.1
      = logStore (readBlock arg1 harg1 x0) (readBlock arg2 harg2 x1) (readWeights arg3 harg3 x2) := by
  sl_kernel_rfl

set_option maxHeartbeats 4000000 in
/-- The body's stores into the output block are those stated above. -/
theorem run_stores :
    (kernelRun0_A c i arg1 harg1 arg2 harg2 arg3 harg3 arg4 harg4 arg5 harg5 x0 x1 x2).1
      = stores (readBlock arg1 harg1 x0) (readBlock arg2 harg2 x1) (readWeights arg3 harg3 x2) 48 := by
  sl_kernel_rfl

end

end Cert.KernelIdeal.Value

end
-- ==== Proof.Spec.lean ====
/-
  The spline over the real numbers.

  Ten logits cut the interval from -1 to 1 into ten bins, each of a least length plus a share of the rest; the
  knots are their ends. Nine parameters give the slopes at the inner knots, the slope at both ends being one. In
  the bin of `x` the spline is a rational quadratic between the bin's ends with the given slopes there. Both
  programs compute this function; what is needed of it is that every division and every logarithm in it is one
  of a positive number.
-/
module

public import Mathlib.Analysis.SpecialFunctions.Log.Basic

@[expose] public section

noncomputable section

namespace Cert.Spline

open Finset

/-- A hundredth, as the programs' format has it. -/
def least : ℝ := 10737418 / 2 ^ 30

/-- Nine tenths, as the programs' format has it. -/
def free : ℝ := 15099494 / 2 ^ 24

/-- The least length is positive. -/
theorem least_pos : 0 < least := by unfold least; norm_num
/-- The free length is positive. -/
theorem free_pos : 0 < free := by unfold free; norm_num
/-- Nine bins leave room for the tenth. -/
theorem nine_least : 9 * least + free < 1 := by unfold least free; norm_num

/-- The sum of the ten weights. -/
def total (u : ℕ → ℝ) : ℝ := ∑ k ∈ range 10, Real.exp (u k)

/-- The sum of the weights is positive. -/
theorem total_pos (u : ℕ → ℝ) : 0 < total u := sum_pos (fun _ _ => Real.exp_pos _) ⟨0, by simp⟩

/-- The length of bin `k`, the last excepted. -/
def len (u : ℕ → ℝ) (k : ℕ) : ℝ := 2 * least + Real.exp (u k) * (2 * free / total u)

/-- Every bin has a positive length. -/
theorem len_pos (u : ℕ → ℝ) (k : ℕ) : 0 < len u k :=
  add_pos (mul_pos two_pos least_pos)
    (mul_pos (Real.exp_pos _) (div_pos (mul_pos two_pos free_pos) (total_pos u)))

/-- Knot `k` of eleven. -/
def knot (u : ℕ → ℝ) (k : ℕ) : ℝ := if k < 10 then -1 + ∑ j ∈ range k, len u j else 1

/-- The first knot is the left end. -/
theorem knot_zero (u : ℕ → ℝ) : knot u 0 = -1 := by simp [knot]
/-- The last knot is the right end. -/
theorem knot_ten (u : ℕ → ℝ) : knot u 10 = 1 := by simp [knot]
/-- A knot before the last is the sum of the lengths before it. -/
theorem knot_of_lt (u : ℕ → ℝ) {k : ℕ} (h : k < 10) : knot u k = -1 + ∑ j ∈ range k, len u j := if_pos h

/-- The next knot lies one length further. -/
theorem knot_succ (u : ℕ → ℝ) {k : ℕ} (h : k < 9) : knot u (k + 1) = knot u k + len u k := by
  rw [knot_of_lt u (by omega), knot_of_lt u (by omega), sum_range_succ, add_assoc]

/-- Nine bins are shorter than the interval. -/
theorem sum_len_nine (u : ℕ → ℝ) : ∑ j ∈ range 9, len u j < 2 := by
  have h10 : total u = ∑ j ∈ range 9, Real.exp (u j) + Real.exp (u 9) := sum_range_succ _ _
  have hs : ∑ j ∈ range 9, Real.exp (u j) ≤ total u := by rw [h10]; linarith [Real.exp_pos (u 9)]
  have he : ∑ j ∈ range 9, len u j = 18 * least + (∑ j ∈ range 9, Real.exp (u j)) * (2 * free / total u) := by
    simp only [len, sum_add_distrib, ← sum_mul, sum_const, card_range]
    ring
  have hb : (∑ j ∈ range 9, Real.exp (u j)) * (2 * free / total u) ≤ 2 * free := by
    calc _ ≤ total u * (2 * free / total u) :=
          mul_le_mul_of_nonneg_right hs (div_pos (mul_pos two_pos free_pos) (total_pos u)).le
      _ = 2 * free := by field_simp [(total_pos u).ne']
  linarith [nine_least]

/-- Every bin has a positive length. -/
theorem knot_lt_succ (u : ℕ → ℝ) {k : ℕ} (h : k < 10) : knot u k < knot u (k + 1) := by
  rcases Nat.lt_or_ge k 9 with h9 | h9
  · rw [knot_succ u h9]; linarith [len_pos u k]
  · obtain rfl : k = 9 := by omega
    rw [knot_ten, knot_of_lt u (by omega)]; linarith [sum_len_nine u]

/-- The knots increase. -/
theorem knot_mono (u : ℕ → ℝ) {i j : ℕ} (hij : i ≤ j) (hj : j ≤ 10) : knot u i ≤ knot u j := by
  induction j, hij using Nat.le_induction with
  | base => exact le_rfl
  | succ n hn ih => exact (ih (by omega)).trans (knot_lt_succ u (by omega)).le

/-- The slope at knot `k`. -/
def slope (d : ℕ → ℝ) (k : ℕ) : ℝ :=
  if k = 0 ∨ 10 ≤ k then 1 else least + Real.log (1 + Real.exp (d (k - 1)))

/-- The slopes are positive. -/
theorem slope_pos (d : ℕ → ℝ) (k : ℕ) : 0 < slope d k := by
  unfold slope
  split_ifs
  · exact one_pos
  · exact add_pos least_pos (Real.log_pos (by linarith [Real.exp_pos (d (k - 1))]))

/-- The slope at an inner knot. -/
theorem slope_succ (d : ℕ → ℝ) {k : ℕ} (h : k < 9) : slope d (k + 1) = least + Real.log (1 + Real.exp (d k)) :=
  if_neg (by omega)

/-- The last of the knots up to `n` that `x` has reached. -/
def bin (u : ℕ → ℝ) (x : ℝ) : ℕ → ℕ
  | 0 => 0
  | n + 1 => if knot u (n + 1) ≤ x then n + 1 else bin u x n

/-- A bin's number is at most the number of steps. -/
theorem bin_le (u : ℕ → ℝ) (x : ℝ) : ∀ n, bin u x n ≤ n
  | 0 => le_rfl
  | n + 1 => by
    rw [bin]; split_ifs
    · exact le_rfl
    · exact (bin_le u x n).trans (Nat.le_succ n)

/-- The bin starts at or before `x`. -/
theorem knot_bin_le (u : ℕ → ℝ) {x : ℝ} (hx : -1 ≤ x) : ∀ n, knot u (bin u x n) ≤ x
  | 0 => by rw [bin, knot_zero]; exact hx
  | n + 1 => by
    rw [bin]; split_ifs with h
    · exact h
    · exact knot_bin_le u hx n

/-- The knots after the bin's own lie beyond `x`. -/
theorem lt_of_bin_lt (u : ℕ → ℝ) (x : ℝ) : ∀ n k, bin u x n < k → k ≤ n → x < knot u k
  | 0, k, h, hk => by omega
  | n + 1, k, h, hk => by
    rw [bin] at h
    split_ifs at h with hn
    · omega
    · rcases Nat.lt_or_ge n k with hlt | hge
      · obtain rfl : k = n + 1 := by omega
        exact not_le.mp hn
      · exact lt_of_bin_lt u x n k h hge

/-- `x` has reached the knots up to its bin's and no other. -/
theorem knot_le_iff (u : ℕ → ℝ) {x : ℝ} (hx : -1 ≤ x) {k : ℕ} (hk : k < 10) :
    knot u k ≤ x ↔ k ≤ bin u x 9 := by
  constructor
  · intro h
    by_contra hn
    exact absurd h (not_le.mpr (lt_of_bin_lt u x 9 k (by omega) (by omega)))
  · intro h
    exact (knot_mono u h (by have := bin_le u x 9; omega)).trans (knot_bin_le u hx 9)

/-- The bin ends at or after `x`. -/
theorem le_knot_bin_succ (u : ℕ → ℝ) {x : ℝ} (hx : x ≤ 1) : x ≤ knot u (bin u x 9 + 1) := by
  have hb := bin_le u x 9
  rcases Nat.lt_or_ge (bin u x 9) 9 with h | h
  · exact (lt_of_bin_lt u x 9 _ (Nat.lt_succ_self _) h).le
  · rw [show bin u x 9 + 1 = 10 by omega, knot_ten]; exact hx

/-! ## The rational quadratic of one bin -/

/-- The denominator: mean slope `r`, slopes `d` and `e` at the ends, at the place `t`. -/
def den (r d e t : ℝ) : ℝ := r + (d + e - 2 * r) * (t * (1 - t))

/-- The numerator of the slope. -/
def num (r d e t : ℝ) : ℝ := r * r * (e * t * t + 2 * r * (t * (1 - t)) + d * (1 - t) * (1 - t))

/-- The value in a bin that starts at `y` and is `h` high. -/
def val (y h r d e t : ℝ) : ℝ := y + h * (r * t * t + d * (t * (1 - t))) / den r d e t

/-- The logarithm of the slope. -/
def logSlope (r d e t : ℝ) : ℝ := Real.log (num r d e t) - 2 * Real.log (den r d e t)

/-- The denominator is positive. -/
theorem den_pos {r d e t : ℝ} (hr : 0 < r) (hd : 0 < d) (he : 0 < e) (h0 : 0 ≤ t) (h1 : t ≤ 1) : 0 < den r d e t := by
  have hm : 0 ≤ t * (1 - t) := mul_nonneg h0 (by linarith)
  have hq : 0 < 1 - 2 * (t * (1 - t)) := by nlinarith [sq_nonneg (2 * t - 1)]
  have : den r d e t = r * (1 - 2 * (t * (1 - t))) + (d + e) * (t * (1 - t)) := by unfold den; ring
  rw [this]
  exact add_pos_of_pos_of_nonneg (mul_pos hr hq) (mul_nonneg (by linarith) hm)

/-- The numerator is positive. -/
theorem num_pos {r d e t : ℝ} (hr : 0 < r) (hd : 0 < d) (he : 0 < e) (h0 : 0 ≤ t) (h1 : t ≤ 1) : 0 < num r d e t := by
  have hm : 0 ≤ t * (1 - t) := mul_nonneg h0 (by linarith)
  refine mul_pos (mul_pos hr hr) ?_
  rcases eq_or_lt_of_le h0 with rfl | hp
  · simpa using hd
  · have h2 : 0 < e * t * t := mul_pos (mul_pos he hp) hp
    have h3 : 0 ≤ 2 * r * (t * (1 - t)) := mul_nonneg (by linarith) hm
    have h4 : 0 ≤ d * (1 - t) * (1 - t) := by
      rw [mul_assoc]; exact mul_nonneg hd.le (mul_self_nonneg _)
    linarith

/-- The logarithm of a quotient by a square, as a difference of logarithms. -/
theorem log_quotient {r d e t : ℝ} (hr : 0 < r) (hd : 0 < d) (he : 0 < e) (h0 : 0 ≤ t) (h1 : t ≤ 1) :
    Real.log (num r d e t / (den r d e t * den r d e t)) = logSlope r d e t := by
  have hn := (num_pos hr hd he h0 h1).ne'
  have hq := (den_pos hr hd he h0 h1).ne'
  rw [Real.log_div hn (mul_ne_zero hq hq), Real.log_mul hq hq, logSlope]
  ring

/-! ## The spline -/

section
variable (w h d : ℕ → ℝ) (x : ℝ)

/-- The width of the bin of `x`. -/
def width : ℝ := knot w (bin w x 9 + 1) - knot w (bin w x 9)

/-- The height of the bin of `x`. -/
def height : ℝ := knot h (bin w x 9 + 1) - knot h (bin w x 9)

/-- The place of `x` in its bin. -/
def place : ℝ := (x - knot w (bin w x 9)) / width w x

/-- The spline at `x`. -/
def spline : ℝ :=
  val (knot h (bin w x 9)) (height w h x) (height w h x / width w x) (slope d (bin w x 9)) (slope d (bin w x 9 + 1))
    (place w x)

/-- The logarithm of the spline's slope at `x`. -/
def splineLog : ℝ :=
  logSlope (height w h x / width w x) (slope d (bin w x 9)) (slope d (bin w x 9 + 1)) (place w x)

/-- The bin's width is positive. -/
theorem width_pos : 0 < width w x := sub_pos.mpr (knot_lt_succ w (by have := bin_le w x 9; omega))

/-- The bin's height is positive. -/
theorem height_pos : 0 < height w h x := sub_pos.mpr (knot_lt_succ h (by have := bin_le w x 9; omega))

/-- The bin's mean slope is positive. -/
theorem rise_pos : 0 < height w h x / width w x := div_pos (height_pos w h x) (width_pos w x)

variable {x}

/-- The place is at least zero. -/
theorem place_nonneg (hx : -1 ≤ x) : 0 ≤ place w x :=
  div_nonneg (sub_nonneg.mpr (knot_bin_le w hx 9)) (width_pos w x).le

/-- The place is at most one. -/
theorem place_le_one (hx : x ≤ 1) : place w x ≤ 1 :=
  (div_le_one (width_pos w x)).mpr (sub_le_sub_right (le_knot_bin_succ w hx) _)

/-- The spline's denominator is positive. -/
theorem spline_den_pos (h0 : -1 ≤ x) (h1 : x ≤ 1) :
    0 < den (height w h x / width w x) (slope d (bin w x 9)) (slope d (bin w x 9 + 1)) (place w x) :=
  den_pos (rise_pos w h x) (slope_pos _ _) (slope_pos _ _) (place_nonneg w h0) (place_le_one w h1)

/-- The spline's numerator is positive. -/
theorem spline_num_pos (h0 : -1 ≤ x) (h1 : x ≤ 1) :
    0 < num (height w h x / width w x) (slope d (bin w x 9)) (slope d (bin w x 9 + 1)) (place w x) :=
  num_pos (rise_pos w h x) (slope_pos _ _) (slope_pos _ _) (place_nonneg w h0) (place_le_one w h1)

/-- The spline's logarithm, written as one logarithm or as a difference of two. -/
theorem spline_log_quotient (h0 : -1 ≤ x) (h1 : x ≤ 1) :
    Real.log (num (height w h x / width w x) (slope d (bin w x 9)) (slope d (bin w x 9 + 1)) (place w x)
        / (den (height w h x / width w x) (slope d (bin w x 9)) (slope d (bin w x 9 + 1)) (place w x)
          * den (height w h x / width w x) (slope d (bin w x 9)) (slope d (bin w x 9 + 1)) (place w x)))
      = splineLog w h d x :=
  log_quotient (rise_pos w h x) (slope_pos _ _) (slope_pos _ _) (place_nonneg w h0) (place_le_one w h1)

end

end Cert.Spline

end
-- ==== Proof.Reals.lean ====
/-
  The extended reals' operations at real numbers, the programs' constants, and the two results' values at an
  element: the spline on its interval, what lies outside unchanged.
-/
module

public import Idealize.ShloMosaic.Lib.Pointwise
public import Idealize.ShloMosaic.Lib.ValueIdx
public import Idealize.ShloMosaic.Lib.IdealHost
public import proofs.«01_k».proof.Proof.Spec

@[expose] public section

noncomputable section

namespace Cert.Spline

open Idealize.ShloMosaic Finset

/-! ## The operations -/

/-- The exponential of a real. -/
theorem exp_real (r : ℝ) : Ideal.exp ((r : ℝ) : EReal) = ((Real.exp r : ℝ) : EReal) := rfl

/-- The logarithm of a positive real. -/
theorem log_real {r : ℝ} (h : 0 < r) : Ideal.log ((r : ℝ) : EReal) = ((Real.log r : ℝ) : EReal) :=
  if_neg (not_le.mpr h)

/-- The quotient of two reals. -/
theorem div_real (a : ℝ) {b : ℝ} (h : b ≠ 0) : Ideal.div ((a : ℝ) : EReal) ((b : ℝ) : EReal) = ((a / b : ℝ) : EReal) := by
  rw [Ideal.div, if_neg (by exact_mod_cast h), ← EReal.coe_inv, ← EReal.coe_mul, div_eq_mul_inv]

/-- The sum of two reals. -/
theorem add_real (a b : ℝ) : ((a : ℝ) : EReal) + ((b : ℝ) : EReal) = ((a + b : ℝ) : EReal) := (EReal.coe_add a b).symm
/-- The difference of two reals. -/
theorem sub_real (a b : ℝ) : ((a : ℝ) : EReal) - ((b : ℝ) : EReal) = ((a - b : ℝ) : EReal) := (EReal.coe_sub a b).symm
/-- The product of two reals. -/
theorem mul_real (a b : ℝ) : ((a : ℝ) : EReal) * ((b : ℝ) : EReal) = ((a * b : ℝ) : EReal) := (EReal.coe_mul a b).symm

/-- The greater of two reals. -/
theorem max_real (a b : ℝ) : max ((a : ℝ) : EReal) ((b : ℝ) : EReal) = ((max a b : ℝ) : EReal) :=
  (EReal.coe_strictMono.monotone.map_max).symm

/-- The lesser of two reals. -/
theorem min_real (a b : ℝ) : min ((a : ℝ) : EReal) ((b : ℝ) : EReal) = ((min a b : ℝ) : EReal) :=
  (EReal.coe_strictMono.monotone.map_min).symm

/-- A finite sum of reals. -/
theorem sum_real {ι : Type} (s : Finset ι) (g : ι → ℝ) : ∑ i ∈ s, ((g i : ℝ) : EReal) = ((∑ i ∈ s, g i : ℝ) : EReal) := by
  classical
  induction s using Finset.induction_on with
  | empty => simp
  | insert a s ha ih => rw [sum_insert ha, sum_insert ha, ih, add_real]

/-- The comparison "at least". -/
theorem oge_eq (x y : EReal) : Ideal.cmp .oge x y = BitVec.ofBool (decide (y ≤ x)) := rfl
/-- The comparison "at most". -/
theorem ole_eq (x y : EReal) : Ideal.cmp .ole x y = BitVec.ofBool (decide (x ≤ y)) := rfl

/-- A choice by a decided proposition. -/
theorem select_bool {α : Type} (p : Prop) [Decidable p] (a b : α) :
    Scalar.select (BitVec.ofBool (decide p)) a b = if p then a else b := by
  by_cases h : p <;> simp [Scalar.select, h]

/-- The conjunction of two decided propositions. -/
theorem and_bool (p q : Prop) [Decidable p] [Decidable q] :
    BitVec.ofBool (decide p) &&& BitVec.ofBool (decide q) = BitVec.ofBool (decide (p ∧ q)) := by
  by_cases h : p <;> by_cases k : q <;> simp [h, k]

/-! ## The constants -/

/-- The least length of a bin. -/
theorem bits_least : Ideal.ofBits .f32 0x3C23D70A#32 = ((least : ℝ) : EReal) := by
  simp [Ideal.ofBits, Ideal.ieee, least, -EReal.coe_mul]; norm_num

/-- Twice the least length. -/
theorem bits_two_least : Ideal.ofBits .f32 0x3CA3D70A#32 = ((2 * least : ℝ) : EReal) := by
  simp [Ideal.ofBits, Ideal.ieee, least, -EReal.coe_mul]; norm_num

/-- The free length. -/
theorem bits_free : Ideal.ofBits .f32 0x3F666666#32 = ((free : ℝ) : EReal) := by
  simp [Ideal.ofBits, Ideal.ieee, free, -EReal.coe_mul]; norm_num

/-- Twice the free length. -/
theorem bits_two_free : Ideal.ofBits .f32 0x3FE66666#32 = ((2 * free : ℝ) : EReal) := by
  simp [Ideal.ofBits, Ideal.ieee, free, -EReal.coe_mul]; norm_num

/-- Zero. -/
theorem bits_zero : Ideal.ofBits .f32 0x00000000#32 = ((0 : ℝ) : EReal) := by
  simp [Ideal.ofBits, Ideal.ieee, -EReal.coe_mul, -EReal.coe_zero]

/-- One. -/
theorem bits_one : Ideal.ofBits .f32 0x3F800000#32 = ((1 : ℝ) : EReal) := by
  simp [Ideal.ofBits, Ideal.ieee, -EReal.coe_mul, -EReal.coe_one]; norm_num

/-- Minus one. -/
theorem bits_neg_one : Ideal.ofBits .f32 0xBF800000#32 = ((-1 : ℝ) : EReal) := by
  simp [Ideal.ofBits, Ideal.ieee, -EReal.coe_mul, -EReal.coe_neg]; norm_num

/-- Two. -/
theorem bits_two : Ideal.ofBits .f32 0x40000000#32 = ((2 : ℝ) : EReal) := by
  simp [Ideal.ofBits, Ideal.ieee, -EReal.coe_mul]; norm_num

/-- Minus infinity. -/
theorem bits_bot : Ideal.ofBits .f32 0xFF800000#32 = ⊥ := by
  simp [Ideal.ofBits, Ideal.ieee]

/-! ## The two results at an element -/

/-- `x` lies on the spline's interval. -/
def Inside (x : EReal) : Prop := ((-1 : ℝ) : EReal) ≤ x ∧ x ≤ ((1 : ℝ) : EReal)

instance (x : EReal) : Decidable (Inside x) := Classical.propDecidable _

/-- The layer's value: the spline on its interval, `x` outside. -/
def outAt (w h d : ℕ → ℝ) (x : EReal) : EReal := if Inside x then ((spline w h d x.toReal : ℝ) : EReal) else x

/-- The logarithm of the layer's slope: the spline's on its interval, zero outside. -/
def logAt (w h d : ℕ → ℝ) (x : EReal) : EReal :=
  if Inside x then ((splineLog w h d x.toReal : ℝ) : EReal) else ((0 : ℝ) : EReal)

/-- What lies on the interval is real. -/
theorem Inside.real {x : EReal} (hx : Inside x) : x = ((x.toReal : ℝ) : EReal) := by
  refine (EReal.coe_toReal ?_ ?_).symm
  · rintro rfl; exact absurd hx.2 (not_le.mpr (EReal.coe_lt_top 1))
  · rintro rfl; exact absurd hx.1 (not_le.mpr (EReal.bot_lt_coe _))

/-- What lies on the interval is at least minus one. -/
theorem Inside.left {x : EReal} (hx : Inside x) : -1 ≤ x.toReal := by
  have h := hx.1; rw [hx.real] at h; exact_mod_cast h

/-- What lies on the interval is at most one. -/
theorem Inside.right {x : EReal} (hx : Inside x) : x.toReal ≤ 1 := by
  have h := hx.2; rw [hx.real] at h; exact_mod_cast h

/-- The clip leaves what lies on the interval. -/
theorem Inside.clip {x : EReal} (hx : Inside x) : min ((1 : ℝ) : EReal) (max ((-1 : ℝ) : EReal) x) = ((x.toReal : ℝ) : EReal) := by
  rw [max_eq_right hx.1, min_eq_right hx.2]; exact hx.real

/-- The spline does not see parameters past the tenth and the ninth. -/
theorem knot_congr {u v : ℕ → ℝ} (h : ∀ k, k < 10 → u k = v k) (k : ℕ) : knot u k = knot v k := by
  have ht : total u = total v := sum_congr rfl fun k hk => by rw [h k (mem_range.mp hk)]
  unfold knot
  split_ifs with hk
  · refine congrArg _ (sum_congr rfl fun j hj => ?_)
    have := mem_range.mp hj
    rw [len, len, h j (by omega), ht]
  · rfl

/-! ## The parameters -/

/-- Row `r` of the weights times a pixel's channels. -/
def theta (W : Fin 1392 → Fin 48 → EReal) (v : Fin 48 → EReal) (r : ℕ) : ℝ :=
  if h : r < 1392 then ∑ q, (W ⟨r, h⟩ q).toReal * (v q).toReal else 0

/-- A row of the weights that exists, times a pixel's channels. -/
theorem theta_of_lt (W : Fin 1392 → Fin 48 → EReal) (v : Fin 48 → EReal) {r : ℕ} (h : r < 1392) :
    theta W v r = ∑ q, (W ⟨r, h⟩ q).toReal * (v q).toReal := dif_pos h

/-- A sum of products of finite numbers is a real sum. -/
theorem sum_mul_real {ι : Type} [Fintype ι] {f g : ι → EReal} (hf : ∀ q, f q = (((f q).toReal : ℝ) : EReal))
    (hg : ∀ q, g q = (((g q).toReal : ℝ) : EReal)) :
    ∑ q, f q * g q = ((∑ q, (f q).toReal * (g q).toReal : ℝ) : EReal) := by
  rw [← sum_real]
  exact sum_congr rfl fun q _ => by rw [← mul_real, ← hf q, ← hg q]

end Cert.Spline

end
-- ==== Proof.ChunkValue.lean ====
/-
  A chunk of the kernel at an element, over the extended reals: given real parameters there, its output is the
  spline of `Spec.lean` on the spline's interval, and its logarithm the spline's.
-/
module

public import proofs.«01_k».proof.Proof.Chunk
public import proofs.«01_k».proof.Proof.Reals

@[expose] public section

noncomputable section

namespace Cert.KernelIdeal.Value

open Cert.Spline Idealize.ShloMosaic Finset

variable {s : Shape} (j : s.Idx)

/-- A constant vector at an element. -/
theorem bc_at (b : BitVec 32) : bc (F := Ideal) s b j = Ideal.ofBits .f32 b := rfl

/-- A choice by whether `x` has reached `c`. -/
theorem keep_at {x c p q : FVec Ideal s .f32} {xr cr pr qr : ℝ} (hx : x j = ((xr : ℝ) : EReal))
    (hc : c j = ((cr : ℝ) : EReal)) (hp : p j = ((pr : ℝ) : EReal)) (hq : q j = ((qr : ℝ) : EReal)) :
    select (cmpf .oge x c) p q j = ((if cr ≤ xr then pr else qr : ℝ) : EReal) := by
  show Scalar.select (BitVec.ofBool (decide (c j ≤ x j))) (p j) (q j) = _
  rw [select_bool, hx, hc, hp, hq]
  simp only [EReal.coe_le_coe_iff]
  split_ifs <;> rfl

/-- A sum of real vectors at an element. -/
theorem sumTo_at {e : ℕ → FVec Ideal s .f32} {g : ℕ → ℝ} :
    ∀ n : ℕ, (∀ k ≤ n, e k j = ((g k : ℝ) : EReal)) → sumTo e n j = ((∑ k ∈ range (n + 1), g k : ℝ) : EReal)
  | 0, h => by simpa [sumTo] using h 0 le_rfl
  | n + 1, h => by
    show sumTo e n j + e (n + 1) j = _
    rw [sumTo_at n fun k hk => h k (by omega), h (n + 1) le_rfl, add_real, sum_range_succ _ (n + 1)]

variable {x : FVec Ideal s .f32} {uw uh ud : ℕ → FVec Ideal s .f32} {w h d : ℕ → ℝ} {r : ℝ}

/-- A bin's length at an element. -/
theorem lenOf_at {u : ℕ → FVec Ideal s .f32} {a : ℕ → ℝ} (hu : ∀ k < 10, u k j = ((a k : ℝ) : EReal)) {k : ℕ}
    (hk : k < 10) : lenOf u k j = ((len a k : ℝ) : EReal) := by
  have hs : sumTo (fun k => exp (u k)) 9 j = ((total a : ℝ) : EReal) :=
    sumTo_at j (g := fun k => Real.exp (a k)) 9 fun k hk => by
      show Ideal.exp (u k j) = _
      rw [hu k (by omega), exp_real]
  show bc (F := Ideal) s 0x3CA3D70A#32 j
    + Ideal.exp (u k j) * Ideal.div (bc (F := Ideal) s 0x3FE66666#32 j) (sumTo (fun k => exp (u k)) 9 j) = _
  rw [bc_at, bc_at, hs, hu k hk, bits_two_least, bits_two_free, div_real _ (total_pos a).ne', exp_real, mul_real, add_real, len]

/-- A knot's slope at an element. -/
theorem slopeOf_at (hd : ∀ k < 9, ud k j = ((d k : ℝ) : EReal)) {k : ℕ} (hk : k < 9) :
    slopeOf ud k j = ((Spline.slope d (k + 1) : ℝ) : EReal) := by
  show bc (F := Ideal) s 0x3C23D70A#32 j + Ideal.log (bc (F := Ideal) s 0x3F800000#32 j + Ideal.exp (ud k j)) = _
  rw [bc_at, bc_at, hd k hk, bits_least, bits_one, exp_real, add_real, log_real (by positivity), add_real, slope_succ d hk]

/-- The walk after the bins up to `n` holds the next knots and slope, and the last of those bins that `r` has reached. -/
structure IsWalk (w h d : ℕ → ℝ) (r : ℝ) (j : s.Idx) (n : ℕ) (a : Walk Ideal s) : Prop where
  cw : a.cw j = ((knot w (n + 1) : ℝ) : EReal)
  ch : a.ch j = ((knot h (n + 1) : ℝ) : EReal)
  sl : a.d j = ((Spline.slope d (n + 1) : ℝ) : EReal)
  aCw : a.aCw j = ((knot w (bin w r n) : ℝ) : EReal)
  aW : a.aW j = ((knot w (bin w r n + 1) - knot w (bin w r n) : ℝ) : EReal)
  aCh : a.aCh j = ((knot h (bin w r n) : ℝ) : EReal)
  aH : a.aH j = ((knot h (bin w r n + 1) - knot h (bin w r n) : ℝ) : EReal)
  aD : a.aD j = ((Spline.slope d (bin w r n) : ℝ) : EReal)
  aD1 : a.aD1 j = ((Spline.slope d (bin w r n + 1) : ℝ) : EReal)

/-- One step of the walk. -/
theorem IsWalk.keep {n : ℕ} {a : Walk Ideal s} (ha : IsWalk w h d r j n a) (hx : x j = ((r : ℝ) : EReal))
    {wv hv dv : FVec Ideal s .f32} (hw : wv j = ((knot w (n + 2) - knot w (n + 1) : ℝ) : EReal))
    (hh : hv j = ((knot h (n + 2) - knot h (n + 1) : ℝ) : EReal)) (hd : dv j = ((Spline.slope d (n + 2) : ℝ) : EReal)) :
    IsWalk w h d r j (n + 1) (keep x wv hv dv a) where
  cw := by
    show a.cw j + wv j = _
    rw [ha.cw, hw, add_real]; congr 1; ring
  ch := by
    show a.ch j + hv j = _
    rw [ha.ch, hh, add_real]; congr 1; ring
  sl := hd
  aCw := (keep_at j hx ha.cw ha.cw ha.aCw).trans (by rw [bin]; split_ifs <;> rfl)
  aW := (keep_at j hx ha.cw hw ha.aW).trans (by rw [bin]; split_ifs <;> rfl)
  aCh := (keep_at j hx ha.cw ha.ch ha.aCh).trans (by rw [bin]; split_ifs <;> rfl)
  aH := (keep_at j hx ha.cw hh ha.aH).trans (by rw [bin]; split_ifs <;> rfl)
  aD := (keep_at j hx ha.cw ha.sl ha.aD).trans (by rw [bin]; split_ifs <;> rfl)
  aD1 := (keep_at j hx ha.cw hd ha.aD1).trans (by rw [bin]; split_ifs <;> rfl)

/-- A bin's length is the difference of its knots. -/
theorem len_eq (u : ℕ → ℝ) {k : ℕ} (hk : k < 9) : len u k = knot u (k + 1) - knot u k := by
  rw [knot_succ u hk]; ring

/-- The kernel's walk is the walk along the knots of `Spec.lean`. -/
theorem isWalk (hx : x j = ((r : ℝ) : EReal)) (hw : ∀ k < 10, uw k j = ((w k : ℝ) : EReal))
    (hh : ∀ k < 10, uh k j = ((h k : ℝ) : EReal)) (hd : ∀ k < 9, ud k j = ((d k : ℝ) : EReal)) :
    ∀ n < 9, IsWalk w h d r j n (walk x uw uh ud n)
  | 0, _ => by
    have h1 : bc (F := Ideal) s 0xBF800000#32 j = ((-1 : ℝ) : EReal) := bits_neg_one
    have h2 : bc (F := Ideal) s 0x3F800000#32 j = ((1 : ℝ) : EReal) := bits_one
    have w0 := lenOf_at j hw (k := 0) (by omega)
    have h0 := lenOf_at j hh (k := 0) (by omega)
    have d0 := slopeOf_at j hd (k := 0) (by omega)
    refine ⟨?_, ?_, d0, ?_, ?_, ?_, ?_, ?_, d0⟩
    · show bc (F := Ideal) s 0xBF800000#32 j + lenOf uw 0 j = _
      rw [h1, w0, add_real, knot_succ w (by omega), knot_zero]
    · show bc (F := Ideal) s 0xBF800000#32 j + lenOf uh 0 j = _
      rw [h1, h0, add_real, knot_succ h (by omega), knot_zero]
    · exact h1.trans (by rw [bin, knot_zero])
    · exact w0.trans (by rw [bin, len_eq w (by omega)])
    · exact h1.trans (by rw [bin, knot_zero])
    · exact h0.trans (by rw [bin, len_eq h (by omega)])
    · exact h2.trans (by rw [bin, Spline.slope, if_pos (Or.inl rfl)])
  | n + 1, hn =>
    (isWalk hx hw hh hd n (by omega)).keep j hx
      ((lenOf_at j hw (by omega)).trans (by rw [len_eq w hn]))
      ((lenOf_at j hh (by omega)).trans (by rw [len_eq h hn])) (slopeOf_at j hd hn)

/-- The walk's end holds the bin of `r`. -/
theorem isWalk_last (hx : x j = ((r : ℝ) : EReal)) (hw : ∀ k < 10, uw k j = ((w k : ℝ) : EReal))
    (hh : ∀ k < 10, uh k j = ((h k : ℝ) : EReal)) (hd : ∀ k < 9, ud k j = ((d k : ℝ) : EReal)) :
    IsWalk w h d r j 9 (lastBin x (walk x uw uh ud 8)) := by
  have ha := isWalk j hx hw hh hd 8 (by omega)
  have h2 : bc (F := Ideal) s 0x3F800000#32 j = ((1 : ℝ) : EReal) := bits_one
  refine ha.keep j hx ?_ ?_ (h2.trans (by rw [Spline.slope, if_pos (Or.inr le_rfl)]))
  · show bc (F := Ideal) s 0x3F800000#32 j - (walk x uw uh ud 8).cw j = _
    rw [h2, ha.cw, sub_real, knot_ten]
  · show bc (F := Ideal) s 0x3F800000#32 j - (walk x uw uh ud 8).ch j = _
    rw [h2, ha.ch, sub_real, knot_ten]

section
variable {a : Walk Ideal s} (hx : x j = ((r : ℝ) : EReal)) (ha : IsWalk w h d r j 9 a)
include hx ha

/-- The place in the kept bin, at an element. -/
theorem place_at : place x a j = ((Spline.place w r : ℝ) : EReal) := by
  show Ideal.div (x j - a.aCw j) (a.aW j) = _
  rw [hx, ha.aCw, ha.aW, sub_real]
  exact div_real _ (width_pos w r).ne'

/-- The place's complement, at an element. -/
theorem comp_at : subf (bc s 0x3F800000#32) (place x a) j = ((1 - Spline.place w r : ℝ) : EReal) := by
  show bc (F := Ideal) s 0x3F800000#32 j - place x a j = _
  rw [place_at j hx ha, bc_at, bits_one, sub_real]

/-- The place times its complement, at an element. -/
theorem mid_at : mid x a j = ((Spline.place w r * (1 - Spline.place w r) : ℝ) : EReal) := by
  show place x a j * subf (bc s 0x3F800000#32) (place x a) j = _
  rw [comp_at j hx ha, place_at j hx ha, mul_real]

omit hx in
/-- The kept bin's mean slope, at an element. -/
theorem rise_at : rise a j = ((height w h r / width w r : ℝ) : EReal) := by
  show Ideal.div (a.aH j) (a.aW j) = _
  rw [ha.aH, ha.aW]
  exact div_real _ (width_pos w r).ne'

/-- The denominator, at an element. -/
theorem denom_at : denom x a j = ((den (height w h r / width w r) (Spline.slope d (bin w r 9)) (Spline.slope d (bin w r 9 + 1))
    (Spline.place w r) : ℝ) : EReal) := by
  show rise a j + (a.aD j + a.aD1 j - bc (F := Ideal) s 0x40000000#32 j * rise a j) * mid x a j = _
  rw [rise_at j ha, mid_at j hx ha, ha.aD, ha.aD1, bc_at, bits_two, add_real, mul_real, sub_real, mul_real, add_real, den]

/-- The kept bin's value is the spline's. -/
theorem valueAt_at (h0 : -1 ≤ r) (h1 : r ≤ 1) : valueAt x a j = ((spline w h d r : ℝ) : EReal) := by
  show a.aCh j + Ideal.div (a.aH j * (rise a j * place x a j * place x a j + a.aD j * mid x a j)) (denom x a j) = _
  rw [rise_at j ha, mid_at j hx ha, place_at j hx ha, denom_at j hx ha, ha.aCh, ha.aH, ha.aD, mul_real, mul_real, mul_real,
    add_real, mul_real, div_real _ (spline_den_pos w h d h0 h1).ne', add_real]
  rfl

/-- The numerator of the slope, at an element. -/
theorem slopeNum_at : slopeNum x a j = ((num (height w h r / width w r) (Spline.slope d (bin w r 9)) (Spline.slope d (bin w r 9 + 1))
    (Spline.place w r) : ℝ) : EReal) := by
  show rise a j * rise a j * (a.aD1 j * place x a j * place x a j + bc (F := Ideal) s 0x40000000#32 j * rise a j * mid x a j
    + a.aD j * subf (bc s 0x3F800000#32) (place x a) j * subf (bc s 0x3F800000#32) (place x a) j) = _
  rw [comp_at j hx ha, rise_at j ha, mid_at j hx ha, place_at j hx ha, ha.aD, ha.aD1, bc_at, bits_two]
  simp only [mul_real, add_real]
  rfl

/-- The logarithm of the slope is the spline's. -/
theorem logSlope_at (h0 : -1 ≤ r) (h1 : r ≤ 1) : logSlope x a j = ((splineLog w h d r : ℝ) : EReal) := by
  show Ideal.log (Ideal.div (slopeNum x a j) (denom x a j * denom x a j)) = _
  have hq := spline_den_pos w h d h0 h1
  rw [slopeNum_at j hx ha, denom_at j hx ha, mul_real, div_real _ (mul_pos hq hq).ne',
    log_real (div_pos (spline_num_pos w h d h0 h1) (mul_pos hq hq)), spline_log_quotient w h d h0 h1]

end

/-- The test for the interval, at an element. -/
theorem onSpline_at : onSpline x j = BitVec.ofBool (decide (Inside (x j))) := by
  show BitVec.ofBool (decide (Ideal.ofBits .f32 0xBF800000#32 ≤ x j))
    &&& BitVec.ofBool (decide (x j ≤ Ideal.ofBits .f32 0x3F800000#32)) = _
  rw [bits_neg_one, bits_one, and_bool]
  exact congrArg BitVec.ofBool (decide_eq_decide.mpr Iff.rfl)

/-- On the interval the clip changes nothing. -/
theorem clipped_at (hx : Inside (x j)) : clipped x j = (((x j).toReal : ℝ) : EReal) := by
  show min (Ideal.ofBits .f32 0x3F800000#32) (max (Ideal.ofBits .f32 0xBF800000#32) (x j)) = _
  rw [bits_neg_one, bits_one, hx.clip]

/-- A chunk's output at an element with real parameters. -/
theorem chunkOut_at (hw : ∀ k < 10, uw k j = ((w k : ℝ) : EReal)) (hh : ∀ k < 10, uh k j = ((h k : ℝ) : EReal))
    (hd : ∀ k < 9, ud k j = ((d k : ℝ) : EReal)) : chunkOut x uw uh ud j = outAt w h d (x j) := by
  show Scalar.select (onSpline x j) (valueAt (clipped x) (binOf x uw uh ud) j) (x j) = _
  rw [onSpline_at, select_bool, outAt]
  split_ifs with hi
  · have hc := clipped_at j hi
    exact valueAt_at j hc (isWalk_last j hc hw hh hd) hi.left hi.right
  · rfl

/-- A chunk's logarithm at an element with real parameters. -/
theorem chunkLog_at (hw : ∀ k < 10, uw k j = ((w k : ℝ) : EReal)) (hh : ∀ k < 10, uh k j = ((h k : ℝ) : EReal))
    (hd : ∀ k < 9, ud k j = ((d k : ℝ) : EReal)) : chunkLog x uw uh ud j = logAt w h d (x j) := by
  show Scalar.select (onSpline x j) (logSlope (clipped x) (binOf x uw uh ud) j) (bc (F := Ideal) s 0x00000000#32 j) = _
  rw [onSpline_at, select_bool, logAt]
  split_ifs with hi
  · have hc := clipped_at j hi
    exact logSlope_at j hc (isWalk_last j hc hw hh hd) hi.left hi.right
  · exact bits_zero

end Cert.KernelIdeal.Value

end
-- ==== Proof.BlockValue.lean ====
/-
  What one grid point of the kernel computes, over the extended reals: from the identity half, the transform half
  and the weights of a batch row, the output block and the sum of the logarithms, element by element.
-/
module

public import proofs.«01_k».proof.Proof.ChunkValue

@[expose] public section

set_option maxRecDepth 16384

noncomputable section

namespace Cert.KernelIdeal.Value

open Cert.KernelIdeal Cert.KernelIdeal.Gen Cert.Spline Idealize.ShloMosaic Idealize.ShloMosaic.TcCoe Idealize.SL.Sem Finset

variable (A1 A2 : FVec Ideal S1x48x1024 .f32) (A3 : FVec Ideal S1392x48 .f32)

/-- The weights by row and channel. -/
abbrev wt (r : Fin 1392) (q : Fin 48) : EReal := A3 (ix2 r q)

/-- The identity half's channels at a pixel. -/
abbrev pix (p : Fin 1024) (q : Fin 48) : EReal := A1 (ix3 0 q p)

/-- Parameter `k` of channel `c` at a pixel: the rows of the weights are grouped by parameter. -/
def tk (c : ℕ) (p : Fin 1024) (k : ℕ) : ℝ := theta (wt A3) (pix A1 p) (48 * k + c)

/-- The output at channel `c` of the transform half. -/
def outK (c : Fin 48) (p : Fin 1024) : EReal :=
  outAt (tk A1 A3 c p) (fun k => tk A1 A3 c p (10 + k)) (fun k => tk A1 A3 c p (20 + k)) (A2 (ix3 0 c p))

/-- The logarithm at channel `c` of the transform half. -/
def logK (c : Fin 48) (p : Fin 1024) : EReal :=
  logAt (tk A1 A3 c p) (fun k => tk A1 A3 c p (10 + k)) (fun k => tk A1 A3 c p (20 + k)) (A2 (ix3 0 c p))

/-- The output block. -/
def blockOut (y : S1x96x1024.Idx) : EReal :=
  if h : (y 1 : ℕ) < 48 then A1 (ix3 0 ⟨(y 1 : ℕ), h⟩ (y 2))
  else outK A1 A2 A3 ⟨(y 1 : ℕ) - 48, by have : (y 1 : ℕ) < 96 := (y 1).isLt; omega⟩ (y 2)

/-- The sum of the logarithms. -/
def blockLog : EReal := ∑ c, ∑ p, logK A1 A2 A3 c p

section
variable (h1 : ∀ q p, A1 (ix3 0 q p) = (((A1 (ix3 0 q p)).toReal : ℝ) : EReal))
  (h3 : ∀ r q, A3 (ix2 r q) = (((A3 (ix2 r q)).toReal : ℝ) : EReal))

/-- The identity half at a channel and a pixel. -/
theorem idRows_at (q : Fin 48) (p : Fin 1024) : idRows (F := Ideal) A1 (ix2 q p) = A1 (ix3 0 q p) := by
  pointwise [idRows]

/-- The row of chunk `n`'s element. -/
def rowAt (n : ℕ) (a : Fin 8) : Fin 48 := ⟨8 * (n / 8 % 6) + a, by omega⟩

/-- The column of chunk `n`'s element. -/
def colAt (n : ℕ) (b : Fin 128) : Fin 1024 := ⟨128 * (n % 8) + b, by omega⟩

/-- Chunk `n`'s elements, as elements of the transform half. -/
theorem rows_at (n : ℕ) (a : Fin 8) (b : Fin 128) : rows (F := Ideal) A2 n (ix2 a b) = A2 (ix3 0 (rowAt n a) (colAt n b)) := by
  pointwise [rows]
  rfl

include h1 h3 in
/-- A parameter is a real number: a row of the weights times the pixel's channels. -/
theorem params_at (r : Fin 1392) (p : Fin 1024) :
    params (F := Ideal) A1 A3 (ix2 r p) = ((theta (wt A3) (pix A1 p) r : ℝ) : EReal) := by
  have e : params (F := Ideal) A1 A3 (ix2 r p) = ∑ q : Fin 48, A3 (ix2 r q) * A1 (ix3 0 q p) := by
    pointwise [params, idRows]
  rw [e, theta_of_lt _ _ r.isLt]
  exact sum_mul_real (fun q => h3 r q) fun q => h1 q p

include h1 h3 in
/-- Parameter `k` of chunk `n` at an element. -/
theorem param_at (n k : ℕ) (hk : k < 29) (a : Fin 8) (b : Fin 128) :
    param (F := Ideal) A1 A3 n k (ix2 a b) = ((tk A1 A3 (rowAt n a) (colAt n b) k : ℝ) : EReal) := by
  rw [param, dif_pos hk]
  have hr : 48 * k + (8 * (n / 8 % 6) + a) < 1392 := by omega
  refine Eq.trans ?_ (params_at A1 A3 h1 h3 ⟨48 * k + (8 * (n / 8 % 6) + a), hr⟩ (colAt n b))
  refine congrArg (params (F := Ideal) A1 A3) (funext fun d => Fin.ext ?_)
  match d with
  | ⟨0, _⟩ => show 48 * k + 8 * (n / 8 % 6) + a.val = 48 * k + (8 * (n / 8 % 6) + a.val); omega
  | ⟨1, _⟩ => rfl

include h1 h3 in
/-- Chunk `n`'s output at an element is the layer's there. -/
theorem chunkOut_block (n : ℕ) (a : Fin 8) (b : Fin 128) :
    chunkOut (rows (F := Ideal) A2 n) (param (F := Ideal) A1 A3 n) (fun k => param (F := Ideal) A1 A3 n (10 + k)) (fun k => param (F := Ideal) A1 A3 n (20 + k)) (ix2 a b)
      = outK A1 A2 A3 (rowAt n a) (colAt n b) := by
  rw [chunkOut_at (ix2 a b) (fun k hk => param_at A1 A3 h1 h3 n k (by omega) a b)
    (fun k hk => param_at A1 A3 h1 h3 n (10 + k) (by omega) a b)
    (fun k hk => param_at A1 A3 h1 h3 n (20 + k) (by omega) a b), rows_at]
  rfl

include h1 h3 in
/-- Chunk `n`'s logarithm at an element is the layer's there. -/
theorem chunkLog_block (n : ℕ) (a : Fin 8) (b : Fin 128) :
    chunkLog (rows (F := Ideal) A2 n) (param (F := Ideal) A1 A3 n) (fun k => param (F := Ideal) A1 A3 n (10 + k)) (fun k => param (F := Ideal) A1 A3 n (20 + k)) (ix2 a b)
      = logK A1 A2 A3 (rowAt n a) (colAt n b) := by
  rw [chunkLog_at (ix2 a b) (fun k hk => param_at A1 A3 h1 h3 n k (by omega) a b)
    (fun k hk => param_at A1 A3 h1 h3 n (10 + k) (by omega) a b)
    (fun k hk => param_at A1 A3 h1 h3 n (20 + k) (by omega) a b), rows_at]
  rfl

include h1 h3 in
/-- What chunk `n` stores at an element is the layer's output there. -/
theorem storeOf_at (n : ℕ) (x : S1x8x128.Idx) :
    storeOf (F := Ideal) A1 A2 A3 n x = outK A1 A2 A3 (rowAt n (x 1)) (colAt n (x 2)) := by
  idx_vars x
  refine Eq.trans ?_ (chunkOut_block A1 A2 A3 h1 h3 n x1 x2)
  pointwise [storeOf]

include h1 h3 in
/-- Each of the stores writes the output block's values at its own place. -/
theorem stores_at (n : ℕ) : ∀ p ∈ stores (F := Ideal) A1 A2 A3 n, ∀ x : p.1.shape.Idx, p.2 x = blockOut A1 A2 A3 (p.1.emb x) := by
  induction n with
  | zero =>
    intro p hp
    obtain rfl := List.mem_singleton.mp hp
    intro x
    have hx : ((Rect.unit (s := S1x96x1024) ![0, 0, 0] S1x48x1024.size inb_S1x96x1024_S1x48x1024_0_0_0).emb x 1 : ℕ) = (x 1 : ℕ) := by
      show 0 + 1 * (x 1 : ℕ) = _; omega
    have hl : (x 1 : ℕ) < 48 := (x 1).isLt
    have h0 : (x 0 : ℕ) < 1 := (x 0).isLt
    show shapeCast S1x48x1024 (idRows (F := Ideal) A1) shapeCasts_S48x1024_S1x48x1024 x = _
    rw [blockOut, dif_pos (by rw [hx]; exact hl)]
    have e : ∀ x : S1x48x1024.Idx, shapeCast S1x48x1024 (idRows (F := Ideal) A1) shapeCasts_S48x1024_S1x48x1024 x = A1 x := by
      intro x
      idx_vars x
      pointwise [idRows]
      exact congrArg A1 (by rw [Subsingleton.elim x0 0])
    refine (e x).trans (congrArg A1 (funext fun d => Fin.ext ?_))
    match d with
    | ⟨0, _⟩ => show (x 0 : ℕ) = 0; omega
    | ⟨1, _⟩ => exact hx.symm
    | ⟨2, _⟩ => show (x 2 : ℕ) = 0 + 1 * (x 2 : ℕ); omega
  | succ n ih =>
    intro p hp
    rcases List.mem_cons.mp hp with rfl | hp
    · intro x
      have hx : ((Rect.unit (s := S1x96x1024) ![0, 48 + 8 * (n / 8 % 6), 128 * (n % 8)] S1x8x128.size (inb_chunk n)).emb x 1 : ℕ)
          = 48 + 8 * (n / 8 % 6) + (x 1 : ℕ) := by
        show 48 + 8 * (n / 8 % 6) + 1 * (x 1 : ℕ) = _; omega
      refine (storeOf_at A1 A2 A3 h1 h3 n x).trans ?_
      rw [blockOut, dif_neg (by rw [hx]; omega)]
      refine congrArg₂ (outK A1 A2 A3) (Fin.ext ?_) (Fin.ext ?_)
      · show 8 * (n / 8 % 6) + (x 1 : ℕ) = _
        dsimp only
        rw [hx]; omega
      · show 128 * (n % 8) + (x 2 : ℕ) = 128 * (n % 8) + 1 * (x 2 : ℕ); omega
    · exact ih p hp

include h1 h3 in
/-- A chunk's logarithms, summed over its rows and columns. -/
theorem logOf_at (n : ℕ) : logOf (F := Ideal) A1 A2 A3 n = ∑ a, ∑ b, logK A1 A2 A3 (rowAt n a) (colAt n b) := by
  have e : logOf (F := Ideal) A1 A2 A3 n = ∑ a : Fin 8, ∑ b : Fin 128,
      chunkLog (rows (F := Ideal) A2 n) (param (F := Ideal) A1 A3 n) (fun k => param (F := Ideal) A1 A3 n (10 + k)) (fun k => param (F := Ideal) A1 A3 n (20 + k)) (ix2 a b) := by
    unfold logOf
    generalize chunkLog (rows (F := Ideal) A2 n) (param (F := Ideal) A1 A3 n) (fun k => param (F := Ideal) A1 A3 n (10 + k)) (fun k => param (F := Ideal) A1 A3 n (20 + k)) = v
    pointwise
  rw [e]
  exact sum_congr rfl fun a _ => sum_congr rfl fun b _ => chunkLog_block A1 A2 A3 h1 h3 n a b

include h1 h3 in
/-- The running total after chunk `n`, as one sum over chunks, rows and columns. -/
theorem logTo_at (n : ℕ) :
    logTo (F := Ideal) A1 A2 A3 n = ∑ k ∈ range (n + 1), ∑ a, ∑ b, logK A1 A2 A3 (rowAt k a) (colAt k b) := by
  induction n with
  | zero => rw [sum_range_one]; exact logOf_at A1 A2 A3 h1 h3 0
  | succ n ih =>
    rw [sum_range_succ, ← ih, ← logOf_at A1 A2 A3 h1 h3 (n + 1)]
    rfl

include h1 h3 in
/-- The total over all 48 chunks is the sum over the whole block. -/
theorem logTo_block : logTo (F := Ideal) A1 A2 A3 47 = blockLog A1 A2 A3 := by
  have hc : ∀ (j : Fin 6) (t : Fin 8) (a : Fin 8), rowAt (j.val * 8 + t.val) a = ⟨j.val * 8 + a.val, by omega⟩ := by
    intro j t a; refine Fin.ext ?_; show 8 * ((j.val * 8 + t.val) / 8 % 6) + a.val = _; dsimp only; omega
  have hp : ∀ (j : Fin 6) (t : Fin 8) (b : Fin 128), colAt (j.val * 8 + t.val) b = ⟨t.val * 128 + b.val, by omega⟩ := by
    intro j t b; refine Fin.ext ?_; show 128 * ((j.val * 8 + t.val) % 8) + b.val = _; dsimp only; omega
  rw [logTo_at A1 A2 A3 h1 h3, blockLog, sum_range, Fin.sum_univ_tiles 6 8 rfl, Fin.sum_univ_tiles 6 8 rfl]
  refine sum_congr rfl fun j _ => ?_
  simp only [hc, hp]
  rw [sum_comm]
  refine sum_congr rfl fun a _ => ?_
  rw [Fin.sum_univ_tiles 8 128 rfl]

end

end Cert.KernelIdeal.Value

end
-- ==== Proof.Target.lean ====
/-
  The layer's two results as functions of its input and its convolution's weights, by coordinates: the first half of
  the channels unchanged, the second half each through its own spline, whose parameters are products of the weights
  with the first half at the same pixel; and the sum of the slopes' logarithms over a batch row.
-/
module

public import proofs.«01_k».proof.Proof.Reals

@[expose] public section

noncomputable section

namespace Cert.Spline

open Finset

variable (z : Fin 16 → Fin 96 → Fin 32 → Fin 32 → EReal) (wgt : Fin 1392 → Fin 48 → EReal)

/-- The first half's channels at a pixel. -/
def pixel (i : Fin 16) (a b : Fin 32) (q : Fin 48) : EReal := z i ⟨q, by omega⟩ a b

/-- Parameter `k` of channel `c` at a pixel: the weights' rows are grouped by channel. -/
def par (i : Fin 16) (c : Fin 48) (a b : Fin 32) (k : ℕ) : ℝ :=
  if k < 29 then theta wgt (pixel z i a b) (c * 29 + k) else 0

/-- The second half's value. -/
def outZ (i : Fin 16) (c : Fin 48) (a b : Fin 32) : EReal :=
  outAt (par z wgt i c a b) (fun k => par z wgt i c a b (10 + k)) (fun k => par z wgt i c a b (20 + k))
    (z i ⟨48 + c, by omega⟩ a b)

/-- The logarithm of its slope. -/
def logZ (i : Fin 16) (c : Fin 48) (a b : Fin 32) : EReal :=
  logAt (par z wgt i c a b) (fun k => par z wgt i c a b (10 + k)) (fun k => par z wgt i c a b (20 + k))
    (z i ⟨48 + c, by omega⟩ a b)

/-- The layer's output. -/
def resZ (i : Fin 16) (q : Fin 96) (a b : Fin 32) : EReal :=
  if h : (q : ℕ) < 48 then z i q a b else outZ z wgt i ⟨q - 48, by omega⟩ a b

/-- The layer's logarithm of the determinant. -/
def detZ (i : Fin 16) : EReal := ∑ c, ∑ a, ∑ b, logZ z wgt i c a b

/-- The two parts of the input the layer computes with are finite. -/
structure Finite : Prop where
  input : ∀ i (q : Fin 96) a b, (q : ℕ) < 48 → z i q a b = (((z i q a b).toReal : ℝ) : EReal)
  weights : ∀ r q, wgt r q = (((wgt r q).toReal : ℝ) : EReal)

end Cert.Spline

end
-- ==== Proof.KernelRun.lean ====
/-
  The kernel's run, read: from the argument arrays to the two result arrays, element by element.

  Each of the sixteen grid points takes a batch row's two halves and the weights, and writes that row's block of each
  result; the blocks tile the results. Before the region the weights' rows are regrouped by parameter, after it the
  results are given their final shapes.
-/
module

public import proofs.«01_k».proof.Proof.BlockValue
public import proofs.«01_k».proof.Proof.Target
public import Idealize.ShloMosaic.Lib.Pipeline.Value
public import Idealize.ShloMosaic.Lib.VecWindow
public import Idealize.ShloMosaic.Lib.WritesUnit

@[expose] public section

set_option maxRecDepth 16384

noncomputable section

namespace Cert.KernelIdeal.Value

open Cert.KernelIdeal Cert.KernelIdeal.Gen Cert.Spline Idealize.ShloMosaic Idealize.ShloMosaic.TcCoe Idealize.SL.Sem Finset
open Idealize.ShloMosaic.Pipeline (Dat)

/-! ## A grid point -/

section
variable {F : FTy → Type} [FloatOps F]

/-- Reading a whole block gives the block. -/
theorem readBlock_eq (arg : Memref sig .tc .vmem S1x48x1024 .f32) (harg : arg.IsWhole) (x : Vec F S1x48x1024 .f32) :
    readBlock arg harg x = x :=
  (View.readAt_full arg.view (harg.unread x) inb_S1x48x1024_S1x48x1024_0_0_0).trans (harg.read_unread x)

/-- Reading all the weights gives the weights. -/
theorem readWeights_eq (arg : Memref sig .tc .vmem S1392x48 .f32) (harg : arg.IsWhole) (x : Vec F S1392x48 .f32) :
    readWeights arg harg x = x :=
  (View.readAt_full arg.view (harg.unread x) inb_S1392x48_S1392x48_0_0).trans (harg.read_unread x)

end

section
variable (c : Dev nD) (i : grid0.Coords) (arg1 : Memref sig .tc .vmem S1x48x1024 .f32) (harg1 : arg1.IsWhole)
  (arg2 : Memref sig .tc .vmem S1x48x1024 .f32) (harg2 : arg2.IsWhole)
  (arg3 : Memref sig .tc .vmem S1392x48 .f32) (harg3 : arg3.IsWhole)
  (arg4 : Memref sig .tc .vmem S1x96x1024 .f32) (harg4 : arg4.IsWhole)
  (arg5 : Memref sig .tc .vmem S1x1x1 .f32) (harg5 : arg5.IsWhole)
  (x0 : Vec Ideal S1x48x1024 .f32) (x1 : Vec Ideal S1x48x1024 .f32) (x2 : Vec Ideal S1392x48 .f32)
  (h0 : ∀ q p, x0 (ix3 0 q p) = (((show EReal from x0 (ix3 0 q p)).toReal : ℝ) : EReal))
  (h2 : ∀ r q, x2 (ix2 r q) = (((show EReal from x2 (ix2 r q)).toReal : ℝ) : EReal))
include h0 h2

/-- A grid point leaves the output block of `BlockValue.lean`. -/
theorem point_out :
    out0_A_3 c i arg1 harg1 arg2 harg2 arg3 harg3 arg4 harg4 arg5 harg5 x0 x1 x2 = blockOut x0 x1 x2 := by
  funext y
  have hc := cover0_A_3 c i arg1 harg1 arg2 harg2 arg3 harg3 arg4 harg4 arg5 harg5 x0 x1 x2 y
  unfold out0_A_3
  rw [run_stores, readBlock_eq, readBlock_eq, readWeights_eq] at hc ⊢
  exact View.read_writes_apply_of_pieces _ _ (blockOut x0 x1 x2) _ (stores_at x0 x1 x2 h0 h2 48) y hc

/-- A grid point leaves the sum of its logarithms. -/
theorem point_log :
    out0_A_4 c i arg1 harg1 arg2 harg2 arg3 harg3 arg4 harg4 arg5 harg5 x0 x1 x2 = fun _ => blockLog x0 x1 x2 := by
  funext y
  have hc := cover0_A_4 c i arg1 harg1 arg2 harg2 arg3 harg3 arg4 harg4 arg5 harg5 x0 x1 x2 y
  unfold out0_A_4
  rw [run_logStore, readBlock_eq, readBlock_eq, readWeights_eq] at hc ⊢
  refine View.read_writes_apply_of_pieces _ _ (fun _ => blockLog x0 x1 x2) _ (fun p hp x => ?_) y hc
  obtain rfl := List.mem_singleton.mp hp
  exact logTo_block x0 x1 x2 h0 h2

end

/-! ## The arrays the region finds -/

variable (m : (ℓ : Loc nD τ sig) → Buf (Elt Ideal) ℓ) (ρ : Dev nD → PrngReg) (c : Dev nD)

/-- The layer's input. -/
abbrev Z : FVec Ideal S16x96x32x32 .f32 := m ((c : Thread nD τ).loc main_arg0)

/-- The convolution's weights. -/
abbrev Wc : FVec Ideal S1392x48x1x1 .f32 := m ((c : Thread nD τ).loc main_arg1)

/-- The region finds the input with its pixels in one row. -/
theorem entry_input : V m c main_v0 = shapeCast S16x96x1024 (Z m c) shapeCasts_S16x96x32x32_S16x96x1024 := by
  show StableHlo.after hostOps0 (fun b => m (c, b)) (Proc.devRef .tc _) = _
  dsimp only [hostOps0]
  after_results
  rfl

/-- The region finds the weights regrouped. -/
theorem entry_weights : V m c main_v4
    = shapeCast S1392x48 (transpose S29x48x48 [1, 0, 2] (shapeCast S48x29x48 (shapeCast S1392x48 (Wc m c)
        shapeCasts_S1392x48x1x1_S1392x48) shapeCasts_S1392x48_S48x29x48) transposes_S48x29x48_S29x48x48_1_0_2)
      shapeCasts_S29x48x48_S1392x48 := by
  show StableHlo.after hostOps0 (fun b => m (c, b)) (Proc.devRef .tc _) = _
  dsimp only [hostOps0]
  after_results
  rfl

/-- The flattened input at an element. -/
theorem entry_input_at (i : Fin 16) (q : Fin 96) (p : Fin 1024) :
    (V m c main_v0 : FVec Ideal S16x96x1024 .f32) (ix3 i q p)
      = Z m c (ix4 i q ⟨p / 32, by omega⟩ ⟨p % 32, by omega⟩) := by
  rw [entry_input]
  pointwise

/-- The regrouped weights: row `48 k + c` is the convolution's row `29 c + k`. -/
theorem entry_weights_at (k : Fin 29) (ch : Fin 48) (q : Fin 48) :
    (V m c main_v4 : FVec Ideal S1392x48 .f32) (ix2 ⟨48 * k + ch, by omega⟩ q)
      = Wc m c (ix4 ⟨ch * 29 + k, by omega⟩ q 0 0) := by
  rw [entry_weights]
  pointwise

/-! ## A point's blocks -/

/-- The input by coordinates. -/
abbrev zc (i : Fin 16) (q : Fin 96) (a b : Fin 32) : EReal := Z m c (ix4 i q a b)

/-- The weights by coordinates. -/
abbrev wc (r : Fin 1392) (q : Fin 48) : EReal := Wc m c (ix4 r q 0 0)

/-- A grid point's batch row. -/
def batch (t : Fin cfg0.N) : Fin 16 := ⟨t.val, lt_of_lt_of_eq t.isLt N_0⟩

/-- Where the identity half's block lies. -/
theorem index_0 : ∀ t : Fin grid0.N, win0_0.index t 0 * win0_0.size 0 = t.val ∧ win0_0.index t 1 * win0_0.size 1 = 0
    ∧ win0_0.index t 2 * win0_0.size 2 = 0 := by decide +kernel

/-- Where the transform half's block lies. -/
theorem index_1 : ∀ t : Fin grid0.N, win0_1.index t 0 * win0_1.size 0 = t.val ∧ win0_1.index t 1 * win0_1.size 1 = 48
    ∧ win0_1.index t 2 * win0_1.size 2 = 0 := by decide +kernel

/-- Where the weights' block lies. -/
theorem index_2 : ∀ t : Fin grid0.N, win0_2.index t 0 * win0_2.size 0 = 0 ∧ win0_2.index t 1 * win0_2.size 1 = 0 := by
  decide +kernel

/-- Where the output block lies. -/
theorem index_3 : ∀ t : Fin grid0.N, win0_3.index t 0 * win0_3.size 0 = t.val ∧ win0_3.index t 1 * win0_3.size 1 = 0
    ∧ win0_3.index t 2 * win0_3.size 2 = 0 := by decide +kernel

/-- Where the summed logarithm lies. -/
theorem index_4 : ∀ t : Fin grid0.N, win0_4.index t 0 * win0_4.size 0 = t.val ∧ win0_4.index t 1 * win0_4.size 1 = 0
    ∧ win0_4.index t 2 * win0_4.size 2 = 0 := by decide +kernel

/-- A grid point's identity half, as elements of the input. -/
theorem blk_0 (t : Fin cfg0.N) (q : Fin 48) (p : Fin 1024) :
    (iblk m c 0 t : FVec Ideal S1x48x1024 .f32) (ix3 0 q p)
      = zc m c (batch t) ⟨q, by omega⟩ ⟨p / 32, by omega⟩ ⟨p % 32, by omega⟩ := by
  refine Eq.trans ?_ (entry_input_at m c (batch t) ⟨q, by omega⟩ p)
  refine congrArg (V m c main_v0 : FVec Ideal S16x96x1024 .f32) (funext fun d => Fin.ext ?_)
  have e := index_0 t
  match d with
  | ⟨0, _⟩ => show win0_0.index t 0 * win0_0.size 0 + 1 * 0 = t.val; rw [e.1]; omega
  | ⟨1, _⟩ => show win0_0.index t 1 * win0_0.size 1 + 1 * q.val = q.val; rw [e.2.1]; omega
  | ⟨2, _⟩ => show win0_0.index t 2 * win0_0.size 2 + 1 * p.val = p.val; rw [e.2.2]; omega

/-- A grid point's transform half, as elements of the input. -/
theorem blk_1 (t : Fin cfg0.N) (q : Fin 48) (p : Fin 1024) :
    (iblk m c 1 t : FVec Ideal S1x48x1024 .f32) (ix3 0 q p)
      = zc m c (batch t) ⟨48 + q, by omega⟩ ⟨p / 32, by omega⟩ ⟨p % 32, by omega⟩ := by
  refine Eq.trans ?_ (entry_input_at m c (batch t) ⟨48 + q, by omega⟩ p)
  refine congrArg (V m c main_v0 : FVec Ideal S16x96x1024 .f32) (funext fun d => Fin.ext ?_)
  have e := index_1 t
  match d with
  | ⟨0, _⟩ => show win0_1.index t 0 * win0_1.size 0 + 1 * 0 = t.val; rw [e.1]; omega
  | ⟨1, _⟩ => show win0_1.index t 1 * win0_1.size 1 + 1 * q.val = 48 + q.val; rw [e.2.1]; omega
  | ⟨2, _⟩ => show win0_1.index t 2 * win0_1.size 2 + 1 * p.val = p.val; rw [e.2.2]; omega

/-- A grid point's weights, as elements of the weights' array. -/
theorem blk_2 (t : Fin cfg0.N) (r : Fin 1392) (q : Fin 48) :
    (iblk m c 2 t : FVec Ideal S1392x48 .f32) (ix2 r q) = wc m c ⟨r % 48 * 29 + r / 48, by omega⟩ q := by
  refine Eq.trans ?_ (entry_weights_at m c ⟨r / 48, by omega⟩ ⟨r % 48, by omega⟩ q)
  refine congrArg (V m c main_v4 : FVec Ideal S1392x48 .f32) (funext fun d => Fin.ext ?_)
  have e := index_2 t
  match d with
  | ⟨0, _⟩ => show win0_2.index t 0 * win0_2.size 0 + 1 * r.val = 48 * (r.val / 48) + r.val % 48; rw [e.1]; omega
  | ⟨1, _⟩ => show win0_2.index t 1 * win0_2.size 1 + 1 * q.val = q.val; rw [e.2]; omega

/-! ## The two result arrays -/

/-- The first result, before its last reshape. -/
def outArr : FVec Ideal S16x96x1024 .f32 := fun j =>
  resZ (zc m c) (wc m c) (j 0) (j 1) ⟨(j 2 : ℕ) / 32, by have : (j 2 : ℕ) < 1024 := (j 2).isLt; omega⟩ ⟨(j 2 : ℕ) % 32, by omega⟩

/-- The second result, before its last reshape. -/
def logArr : FVec Ideal S16x1x1 .f32 := fun j => detZ (zc m c) (wc m c) (j 0)

/-- A grid point's parameters are the layer's. -/
theorem tk_par (t : Fin cfg0.N) (q : Fin 48) (p : Fin 1024) :
    tk (iblk m c 0 t) (iblk m c 2 t) q p
      = par (zc m c) (wc m c) (batch t) q ⟨p / 32, by omega⟩ ⟨p % 32, by omega⟩ := by
  funext k
  unfold tk par
  by_cases hk : k < 29
  · rw [if_pos hk, theta_of_lt _ _ (show 48 * k + q < 1392 by omega), theta_of_lt _ _ (show q * 29 + k < 1392 by omega)]
    refine sum_congr rfl fun s _ => ?_
    have hr : (⟨(48 * k + q : ℕ) % 48 * 29 + (48 * k + q : ℕ) / 48, by omega⟩ : Fin 1392) = ⟨q * 29 + k, by omega⟩ :=
      Fin.ext (by dsimp only; omega)
    show (show EReal from (iblk m c 2 t : FVec Ideal S1392x48 .f32) (ix2 ⟨48 * k + q, _⟩ s)).toReal
      * (show EReal from (iblk m c 0 t : FVec Ideal S1x48x1024 .f32) (ix3 0 s p)).toReal = _
    rw [blk_0, blk_2]
    dsimp only
    rw [hr]
    rfl
  · rw [if_neg hk]
    exact dif_neg (by omega)

/-- A grid point's outputs are the layer's. -/
theorem outK_outZ (t : Fin cfg0.N) (q : Fin 48) (p : Fin 1024) :
    outK (iblk m c 0 t) (iblk m c 1 t) (iblk m c 2 t) q p
      = outZ (zc m c) (wc m c) (batch t) q ⟨p / 32, by omega⟩ ⟨p % 32, by omega⟩ := by
  unfold outK outZ
  rw [tk_par, blk_1]

/-- A grid point's logarithms are the layer's. -/
theorem logK_logZ (t : Fin cfg0.N) (q : Fin 48) (p : Fin 1024) :
    logK (iblk m c 0 t) (iblk m c 1 t) (iblk m c 2 t) q p
      = logZ (zc m c) (wc m c) (batch t) q ⟨p / 32, by omega⟩ ⟨p % 32, by omega⟩ := by
  unfold logK logZ
  rw [tk_par, blk_1]

/-- A grid point's output block is its part of the first result. -/
theorem blockOut_res (t : Fin cfg0.N) (y : S1x96x1024.Idx) :
    blockOut (iblk m c 0 t) (iblk m c 1 t) (iblk m c 2 t) y = outArr m c (ix3 (batch t) (y 1) (y 2)) := by
  show _ = resZ (zc m c) (wc m c) (batch t) (y 1) _ _
  unfold blockOut resZ
  by_cases hq : (y 1 : ℕ) < 48
  · rw [dif_pos hq, dif_pos hq]
    exact blk_0 m c t ⟨(y 1 : ℕ), hq⟩ (y 2)
  · rw [dif_neg hq, dif_neg hq]
    exact outK_outZ m c t _ (y 2)

/-- A grid point's sum is its part of the second result. -/
theorem blockLog_det (t : Fin cfg0.N) :
    blockLog (iblk m c 0 t) (iblk m c 1 t) (iblk m c 2 t) = detZ (zc m c) (wc m c) (batch t) := by
  unfold blockLog detZ
  refine sum_congr rfl fun q _ => ?_
  rw [Fin.sum_univ_tiles 32 32 rfl]
  refine sum_congr rfl fun a _ => sum_congr rfl fun b _ => ?_
  rw [logK_logZ]
  have ha : (⟨(a * 32 + b : ℕ) / 32, by omega⟩ : Fin 32) = a := Fin.ext (by dsimp only; omega)
  have hb : (⟨(a * 32 + b : ℕ) % 32, by omega⟩ : Fin 32) = b := Fin.ext (by dsimp only; omega)
  dsimp only
  rw [ha, hb]

section
variable (hfin : Finite (zc m c) (wc m c))
include hfin

/-- What a grid point writes back of the first result. -/
theorem flushed_out (t : Fin cfg0.N) : (dats m 0 c).flushed 3 t = (win0_3.blk t).view.read (Elt Ideal) (outArr m c) := by
  show (cfg0.win 3).cut (grid0.coords t) ((dats m 0 c).after 3 t) = _
  rw [after0_3]
  unfold outsAt0
  dsimp only
  rw [point_out _ _ _ _ _ _ _ _ _ _ _ _ _ _ _ (fun q p => by rw [blk_0]; exact hfin.input _ _ _ _ q.isLt)
    (fun r q => by rw [blk_2]; exact hfin.weights _ _)]
  funext y
  have e := index_3 t
  have hj : (win0_3.blk t).view.emb y = (ix3 (batch t) (y 1) (y 2) : S16x96x1024.Idx) := by
    refine funext fun d => Fin.ext ?_
    have h0 : (y 0 : ℕ) < 1 := (y 0).isLt
    match d with
    | ⟨0, _⟩ => show win0_3.index t 0 * win0_3.size 0 + 1 * (y 0 : ℕ) = t.val; rw [e.1]; omega
    | ⟨1, _⟩ => show win0_3.index t 1 * win0_3.size 1 + 1 * (y 1 : ℕ) = (y 1 : ℕ); rw [e.2.1]; omega
    | ⟨2, _⟩ => show win0_3.index t 2 * win0_3.size 2 + 1 * (y 2 : ℕ) = (y 2 : ℕ); rw [e.2.2]; omega
  have hy := blockOut_res m c t y
  exact hy.trans (congrArg (outArr m c) hj).symm

/-- What a grid point writes back of the second result. -/
theorem flushed_log (t : Fin cfg0.N) : (dats m 0 c).flushed 4 t = (win0_4.blk t).view.read (Elt Ideal) (logArr m c) := by
  show (cfg0.win 4).cut (grid0.coords t) ((dats m 0 c).after 4 t) = _
  rw [after0_4]
  unfold outsAt0
  dsimp only
  rw [point_log _ _ _ _ _ _ _ _ _ _ _ _ _ _ _ (fun q p => by rw [blk_0]; exact hfin.input _ _ _ _ q.isLt)
    (fun r q => by rw [blk_2]; exact hfin.weights _ _)]
  funext y
  have e := index_4 t
  have hj : ((win0_4.blk t).view.emb y : S16x1x1.Idx) 0 = batch t := by
    refine Fin.ext ?_
    have h0 : (y 0 : ℕ) < 1 := (y 0).isLt
    show win0_4.index t 0 * win0_4.size 0 + 1 * (y 0 : ℕ) = t.val
    rw [e.1]; omega
  show blockLog (iblk m c 0 t) (iblk m c 1 t) (iblk m c 2 t) = detZ (zc m c) (wc m c) (((win0_4.blk t).view.emb y : S16x1x1.Idx) 0)
  rw [hj, blockLog_det]

end

/-- A grid point's part of the first result is its batch row. -/
theorem mem_out (t : Fin cfg0.N) (i : S16x96x1024.Idx) :
    i ∈ ((cfg0.win 3).blk t).view.set ↔ (i 0 : ℕ) = t.val := by
  show i ∈ ((View.whole main_v5_0).slice (win0_3.rect t)).set ↔ _
  rw [View.set_slice_whole, Rect.mem_set_unit]
  have h1 : (i 1 : ℕ) < 96 := (i 1).isLt
  have h2 : (i 2 : ℕ) < 1024 := (i 2).isLt
  have e := index_3 t
  have s : ∀ t : Fin grid0.N, win0_3.xsize (grid0.coords t) 0 = 1 ∧ win0_3.xsize (grid0.coords t) 1 = 96
      ∧ win0_3.xsize (grid0.coords t) 2 = 1024 := by decide +kernel
  have s := s t
  refine ⟨fun h => ?_, fun h a => ?_⟩
  · have : win0_3.index t 0 * win0_3.size 0 ≤ (i 0 : ℕ) ∧ (i 0 : ℕ) < win0_3.index t 0 * win0_3.size 0 + win0_3.xsize (grid0.coords t) 0 := h 0
    rw [e.1, s.1] at this; omega
  · match a with
    | ⟨0, _⟩ => show win0_3.index t 0 * win0_3.size 0 ≤ (i 0 : ℕ) ∧ (i 0 : ℕ) < win0_3.index t 0 * win0_3.size 0 + win0_3.xsize (grid0.coords t) 0
                rw [e.1, s.1]; omega
    | ⟨1, _⟩ => show win0_3.index t 1 * win0_3.size 1 ≤ (i 1 : ℕ) ∧ (i 1 : ℕ) < win0_3.index t 1 * win0_3.size 1 + win0_3.xsize (grid0.coords t) 1
                rw [e.2.1, s.2.1]; omega
    | ⟨2, _⟩ => show win0_3.index t 2 * win0_3.size 2 ≤ (i 2 : ℕ) ∧ (i 2 : ℕ) < win0_3.index t 2 * win0_3.size 2 + win0_3.xsize (grid0.coords t) 2
                rw [e.2.2, s.2.2]; omega

/-- A grid point's part of the second result is its batch row. -/
theorem mem_log (t : Fin cfg0.N) (i : S16x1x1.Idx) :
    i ∈ ((cfg0.win 4).blk t).view.set ↔ (i 0 : ℕ) = t.val := by
  show i ∈ ((View.whole main_v5_1).slice (win0_4.rect t)).set ↔ _
  rw [View.set_slice_whole, Rect.mem_set_unit]
  have h1 : (i 1 : ℕ) < 1 := (i 1).isLt
  have h2 : (i 2 : ℕ) < 1 := (i 2).isLt
  have e := index_4 t
  have s : ∀ t : Fin grid0.N, win0_4.xsize (grid0.coords t) 0 = 1 ∧ win0_4.xsize (grid0.coords t) 1 = 1
      ∧ win0_4.xsize (grid0.coords t) 2 = 1 := by decide +kernel
  have s := s t
  refine ⟨fun h => ?_, fun h a => ?_⟩
  · have : win0_4.index t 0 * win0_4.size 0 ≤ (i 0 : ℕ) ∧ (i 0 : ℕ) < win0_4.index t 0 * win0_4.size 0 + win0_4.xsize (grid0.coords t) 0 := h 0
    rw [e.1, s.1] at this; omega
  · match a with
    | ⟨0, _⟩ => show win0_4.index t 0 * win0_4.size 0 ≤ (i 0 : ℕ) ∧ (i 0 : ℕ) < win0_4.index t 0 * win0_4.size 0 + win0_4.xsize (grid0.coords t) 0
                rw [e.1, s.1]; omega
    | ⟨1, _⟩ => show win0_4.index t 1 * win0_4.size 1 ≤ (i 1 : ℕ) ∧ (i 1 : ℕ) < win0_4.index t 1 * win0_4.size 1 + win0_4.xsize (grid0.coords t) 1
                rw [e.2.1, s.2.1]; omega
    | ⟨2, _⟩ => show win0_4.index t 2 * win0_4.size 2 ≤ (i 2 : ℕ) ∧ (i 2 : ℕ) < win0_4.index t 2 * win0_4.size 2 + win0_4.xsize (grid0.coords t) 2
                rw [e.2.2, s.2.2]; omega

/-- Every element of the first result is written. -/
theorem cover_out (i : S16x96x1024.Idx) : ∃ t : Fin cfg0.N, (cfg0.win 3).flush t = true ∧ i ∈ ((cfg0.win 3).blk t).view.set := by
  have h0 : (i 0 : ℕ) < 16 := (i 0).isLt
  exact ⟨⟨(i 0 : ℕ), by show _ < grid0.N; rw [N_0]; exact h0⟩, flush0_3 _, (mem_out _ i).2 rfl⟩

/-- Every element of the second result is written. -/
theorem cover_log (i : S16x1x1.Idx) : ∃ t : Fin cfg0.N, (cfg0.win 4).flush t = true ∧ i ∈ ((cfg0.win 4).blk t).view.set := by
  have h0 : (i 0 : ℕ) < 16 := (i 0).isLt
  exact ⟨⟨(i 0 : ℕ), by show _ < grid0.N; rw [N_0]; exact h0⟩, flush0_4 _, (mem_log _ i).2 rfl⟩

/-! ## The run -/

section
variable (hfin : Finite (zc m c) (wc m c))
include hfin

/-- The first result after all grid points. -/
theorem final_out : (dats m 0 c).arrAt 3 cfg0.N = outArr m c :=
  (dats m 0 c).arrAt_eq_of_cover 3 (outArr m c) (fun t _ => flushed_out m c hfin t) cover_out

/-- The second result after all grid points. -/
theorem final_log : (dats m 0 c).arrAt 4 cfg0.N = logArr m c :=
  (dats m 0 c).arrAt_eq_of_cover 4 (logArr m c) (fun t _ => flushed_log m c hfin t) cover_log

/-- An array as the region leaves it. -/
theorem exit_arr (w : Fin cfg0.W) : Pipeline.withArrays cfg0.spec c (V0 m c) (fun w => (dats m 0 c).arrAt w cfg0.N)
      (Proc.devRef .tc (Pipeline.arrRef cfg0.spec w)) = (dats m 0 c).arrAt w cfg0.N :=
  Pipeline.withArrays_arr_shared cfg0.spec c (V0 m c) _ ((dats m 0 c).arrAt_sharedIn sharedIn0 (V0 m c) (A_eq m c) cfg0.N) w

/-- The last reshape of the first result. -/
theorem tail_out : Pipeline.afterTail₀ cfgs (dats m) 0 (V0 m) [hostOps1] c main_v6
    = shapeCast S16x96x32x32 (outArr m c) shapeCasts_S16x96x1024_S16x96x32x32 := by
  show StableHlo.after hostOps1 _ (Proc.devRef .tc _) = _
  dsimp only [hostOps1]
  after_results
  rw [← final_out m c hfin]
  exact congrArg (fun x => shapeCast S16x96x32x32 x shapeCasts_S16x96x1024_S16x96x32x32) (exit_arr m c hfin 3)

/-- The last reshape of the second result. -/
theorem tail_log : Pipeline.afterTail₀ cfgs (dats m) 0 (V0 m) [hostOps1] c main_v7
    = shapeCast S16 (logArr m c) shapeCasts_S16x1x1_S16 := by
  show StableHlo.after hostOps1 _ (Proc.devRef .tc _) = _
  dsimp only [hostOps1]
  after_results
  rw [← final_log m c hfin]
  exact congrArg (fun x => shapeCast S16 x shapeCasts_S16x1x1_S16) (exit_arr m c hfin 4)

end

/-- The first result. -/
def result0 : FVec Ideal S16x96x32x32 .f32 := fun j => resZ (zc m c) (wc m c) (j 0) (j 1) (j 2) (j 3)

/-- The second result. -/
def result1 : FVec Ideal S16 .f32 := fun j => detZ (zc m c) (wc m c) (j 0)

/-- The first result, reshaped, by coordinates. -/
theorem result0_eq : shapeCast S16x96x32x32 (outArr m c) shapeCasts_S16x96x1024_S16x96x32x32 = result0 m c := by
  funext j
  idx_vars j
  pointwise [outArr, result0]
  have ha : (⟨(j2 * 32 + j3 : ℕ) / 32, by omega⟩ : Fin 32) = j2 := Fin.ext (by dsimp only; omega)
  have hb : (⟨(j2 * 32 + j3 : ℕ) % 32, by omega⟩ : Fin 32) = j3 := Fin.ext (by dsimp only; omega)
  rw [ha, hb]

/-- The second result, reshaped, by coordinates. -/
theorem result1_eq : shapeCast S16 (logArr m c) shapeCasts_S16x1x1_S16 = result1 m c := by
  funext j
  idx_vars j
  pointwise [logArr, result1]

/-- From finite inputs the kernel ends with the layer's two results, its arguments unchanged. -/
theorem run (hfin : ∀ c, Finite (zc m c) (wc m c)) :
    θ_run defs (onTc (τ := τ) (main (F := Ideal))) ⟨m, fun _ => 0, ρ⟩ fun r => ∀ c : Dev nD,
      r.2.mem ((c : Thread nD τ).loc main_v6) = result0 m c
      ∧ r.2.mem ((c : Thread nD τ).loc main_v7) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans ((tail_out m c (hfin c)).trans (result0_eq m c)),
      ((h c).2 main_v7 (Pipeline.mem_restRefs_of main_v7 (by decide) (by decide))).trans ((tail_log m c (hfin c)).trans (result1_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Value

end
-- ==== Proof.RefKnots.lean ====
/-
  The reference's knots at an element: a softmax of ten parameters, its running sums, and the two ends set to the ends
  of the interval, over the extended reals, are the knots of `Spec.lean`.
-/
module

public import proofs.«01_k».proof.Proof.Gen.ReferenceIdeal.Read
public import proofs.«01_k».proof.Proof.Reals

@[expose] public section

set_option maxRecDepth 16384

noncomputable section

namespace Cert.ReferenceIdeal.Spline

open Cert.ReferenceIdeal Cert.ReferenceIdeal.Gen Cert.Spline Idealize.ShloMosaic Idealize.ShloMosaic.TcCoe Idealize.SL.Sem Finset

/-! ## Folds -/

/-- Adding up a list from the left. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A reduction over the last of five axes, at an element. -/
theorem fold_last {n0 n1 n2 n3 n4 : ℕ} {α : Type} (op : α → α → α) [Std.Commutative op] [Std.Associative op]
    (h : (⟨5, ![n0, n1, n2, n3, n4]⟩ : Shape).ReducesTo [4] ⟨4, ![n0, n1, n2, n3]⟩) {u : Shape} (hu : 0 < u.numel)
    (v : (⟨5, ![n0, n1, n2, n3, n4]⟩ : Shape).Idx → α) (init : u.Idx → α) (i : Fin n0) (c : Fin n1) (a : Fin n2) (b : Fin n3) :
    Host.reduce op v init h hu (ix4 i c a b)
      = univ.fold op (init (Shape.Idx.first hu)) fun k : Fin n4 => v (ix5 i c a b k) := by
  rw [Host.reduce_eq_fold, Shape.ReducesTo.fold_fiber_r5_a4]
  rfl

/-- The same of the greatest, beside a second one. -/
theorem top_last {n0 n1 n2 n3 n4 : ℕ}
    (h : (⟨5, ![n0, n1, n2, n3, n4]⟩ : Shape).ReducesTo [4] ⟨4, ![n0, n1, n2, n3]⟩) {u : Shape} (hu : 0 < u.numel)
    (v : FVec Ideal ⟨5, ![n0, n1, n2, n3, n4]⟩ .f32) (y : FVec Ideal ⟨4, ![n0, n1, n2, n3]⟩ .f32) (init : FVec Ideal u .f32)
    (i : Fin n0) (c : Fin n1) (a : Fin n2) (b : Fin n3) :
    maximumf y (Host.reduce FloatOps.maximumf v init h hu) (ix4 i c a b)
      = max (y (ix4 i c a b)) (univ.fold max (init (Shape.Idx.first hu)) fun k : Fin n4 => v (ix5 i c a b k)) :=
  congrArg (max (y (ix4 i c a b))) (fold_last (max : EReal → EReal → EReal) h hu v init i c a b)

/-- The greatest of ten reals is a real. -/
theorem top_real (w : Fin 10 → ℝ) :
    ∃ M : ℝ, max (⊥ : EReal) (univ.fold max (⊥ : EReal) fun k => ((w k : ℝ) : EReal)) = ((M : ℝ) : EReal) := by
  rw [max_eq_right bot_le]
  refine ⟨_, (EReal.coe_toReal ?_ ?_).symm⟩
  · exact (Finset.fold_max_lt _ |>.mpr ⟨bot_lt_top, fun k _ => EReal.coe_lt_top (w k)⟩).ne
  · exact ((Finset.lt_fold_max (⊥ : EReal)).mpr (Or.inr ⟨(0 : Fin 10), mem_univ _, EReal.bot_lt_coe (w 0)⟩)).ne'

/-- A softmax does not see a common shift. -/
theorem shifted (w : ℕ → ℝ) (M : ℝ) (k : ℕ) :
    Real.exp (w k - M) / (∑ j : Fin 10, Real.exp (w j - M)) = Real.exp (w k) / total w := by
  have h : ∑ j : Fin 10, Real.exp (w j - M) = total w * Real.exp (-M) := by
    rw [total, sum_range, sum_mul]
    exact sum_congr rfl fun j _ => by rw [sub_eq_add_neg, Real.exp_add]
  rw [h, sub_eq_add_neg, Real.exp_add, mul_div_mul_right _ _ (Real.exp_ne_zero _)]

/-! ## The running sums -/

section
variable (p : FVec Ideal S16x48x32x32x10 .f32)

/-- The running sums along the last axis. -/
def running : FVec Ideal S16x48x32x32x10 .f32 :=
  Host.reduceWindowAdd ![1, 1, 1, 1, 10] ![1, 1, 1, 1, 1] ![0, 0, 0, 0, 9] ![0, 0, 0, 0, 0] p
    (broadcastInDim S_ ![] bcast_S_S_ (constant (F := Ideal) S_ .f32 0x00000000#32))
    reduceWindows_S16x48x32x32x10_S16x48x32x32x10_w1s1p0_0_w1s1p0_0_w1s1p0_0_w1s1p0_0_w10s1p9_0 h_S_

/-- A window's positions, in order. -/
theorem window_pos (n : Fin (⟨5, ![1, 1, 1, 1, 10]⟩ : Shape).numel) :
    (⟨5, ![1, 1, 1, 1, 10]⟩ : Shape).rowMajor.symm n = ix5 0 0 0 0 ⟨n.val, lt_of_lt_of_eq n.isLt (by decide)⟩ := by
  rw [Equiv.symm_apply_eq]
  refine Fin.ext ?_
  rw [Shape.rowMajor_val_five]
  simp

variable (i : Fin 16) (c : Fin 48) (a b : Fin 32)

/-- A window's positions within the operand give a running sum. -/
theorem window_sum (r : ℕ → ℝ) (k : ℕ) (hk : k < 10) :
    ∑ n ∈ range 10, (if 9 ≤ k + n then r (k + n - 9) else 0) = ∑ j ∈ range (k + 1), r j := by
  interval_cases k <;> simp [sum_range_succ]

/-- A window position's element: the operand's, or nothing before its start. -/
theorem padded {r : ℕ → ℝ} (hp : ∀ k : Fin 10, p (ix5 i c a b k) = ((r k : ℝ) : EReal)) (n : ℕ) (hn : n < 19)
    (q : Fin 5 → ℕ) (h0 : q 0 = i) (h1 : q 1 = c) (h2 : q 2 = a) (h3 : q 3 = b) (h4 : q 4 = n)
    (_ : Decidable (∀ d : Fin 5, (![0, 0, 0, 0, 9] : Fin 5 → ℕ) d ≤ q d
      ∧ q d - (![0, 0, 0, 0, 9] : Fin 5 → ℕ) d < S16x48x32x32x10.size d)) :
    (if hin : ∀ d : Fin 5, (![0, 0, 0, 0, 9] : Fin 5 → ℕ) d ≤ q d
          ∧ q d - (![0, 0, 0, 0, 9] : Fin 5 → ℕ) d < S16x48x32x32x10.size d then
        p (fun d => ⟨q d - (![0, 0, 0, 0, 9] : Fin 5 → ℕ) d, (hin d).2⟩) else 0)
      = ((if 9 ≤ n then r (n - 9) else 0 : ℝ) : EReal) := by
  by_cases h9 : 9 ≤ n
  · rw [if_pos h9, dif_pos (fun d => match d with
      | ⟨0, _⟩ => ⟨Nat.zero_le _, by show q 0 - 0 < 16; omega⟩
      | ⟨1, _⟩ => ⟨Nat.zero_le _, by show q 1 - 0 < 48; omega⟩
      | ⟨2, _⟩ => ⟨Nat.zero_le _, by show q 2 - 0 < 32; omega⟩
      | ⟨3, _⟩ => ⟨Nat.zero_le _, by show q 3 - 0 < 32; omega⟩
      | ⟨4, _⟩ => ⟨by show 9 ≤ q 4; omega, by show q 4 - 9 < 10; omega⟩)]
    refine Eq.trans (congrArg p (funext fun d => Fin.ext ?_)) (hp ⟨n - 9, by omega⟩)
    match d with
    | ⟨0, _⟩ => show q 0 - 0 = i.val; omega
    | ⟨1, _⟩ => show q 1 - 0 = c.val; omega
    | ⟨2, _⟩ => show q 2 - 0 = a.val; omega
    | ⟨3, _⟩ => show q 3 - 0 = b.val; omega
    | ⟨4, _⟩ => show q 4 - 9 = n - 9; omega
  · rw [if_neg h9, dif_neg (fun h => h9 ?_), EReal.coe_zero]
    have h : 9 ≤ q 4 := (h 4).1
    omega

/-- A running sum at an element. -/
theorem running_at {r : ℕ → ℝ} (hp : ∀ k : Fin 10, p (ix5 i c a b k) = ((r k : ℝ) : EReal)) (k : Fin 10) :
    running p (ix5 i c a b k) = ((∑ j ∈ range (k + 1), r j : ℝ) : EReal) := by
  have hz : (broadcastInDim S_ ![] bcast_S_S_ (constant (F := Ideal) S_ .f32 0x00000000#32)) (Shape.Idx.first h_S_)
      = ((0 : ℝ) : EReal) := bits_zero
  unfold running Host.reduceWindowAdd
  rw [hz]
  show Ideal.hostReduceWindowAdd _ _ _ _ reduceWindows_S16x48x32x32x10_S16x48x32x32x10_w1s1p0_0_w1s1p0_0_w1s1p0_0_w1s1p0_0_w10s1p9_0 p _ _ = _
  unfold Ideal.hostReduceWindowAdd Host.reduceWindow
  dsimp only
  rw [foldl_add, ← Fin.sum_univ_def, ← window_sum r k k.isLt, EReal.coe_zero, zero_add, sum_range, ← sum_real]
  refine Fintype.sum_equiv (finCongr (by decide)) _ _ fun n => ?_
  have hw := window_pos n
  have hv : ((finCongr (by decide) n : Fin 10) : ℕ) = n.val := rfl
  have hn : n.val < 10 := lt_of_lt_of_eq n.isLt (by decide)
  refine padded p i c a b hp (k + n.val) (by omega) _ ?_ ?_ ?_ ?_ ?_ _
  · show i.val * 1 + _ = i.val
    rw [congrFun hw 0]; simp
  · show c.val * 1 + _ = c.val
    rw [congrFun hw 1]; simp
  · show a.val * 1 + _ = a.val
    rw [congrFun hw 2]; simp
  · show b.val * 1 + _ = b.val
    rw [congrFun hw 3]; simp
  · show k.val * 1 + _ = k.val + n.val
    rw [congrFun hw 4]; simp

/-! ## The lengths -/

/-- The exponentials, shifted by the greatest of the ten. -/
def shiftedExp : FVec Ideal S16x48x32x32x10 .f32 :=
  Host.exp (subf p (broadcastInDim S16x48x32x32x10 ![0, 1, 2, 3, 4] bcast_S16x48x32x32x1_S16x48x32x32x10_0_1_2_3_4
    (broadcastInDim S16x48x32x32x1 ![0, 1, 2, 3] bcast_S16x48x32x32_S16x48x32x32x1_0_1_2_3
      (maximumf (broadcastInDim S16x48x32x32 ![] bcast_S_S16x48x32x32 (constant S_ .f32 0xFF800000#32))
        (Host.reduce FloatOps.maximumf p (constant S_ .f32 0xFF800000#32) reducesTo_S16x48x32x32x10_S16x48x32x32_d4 h_S_)))))

/-- Their quotients by their sum. -/
def softmax : FVec Ideal S16x48x32x32x10 .f32 :=
  Host.divf (shiftedExp p) (broadcastInDim S16x48x32x32x10 ![0, 1, 2, 3, 4] bcast_S16x48x32x32x1_S16x48x32x32x10_0_1_2_3_4
    (broadcastInDim S16x48x32x32x1 ![0, 1, 2, 3] bcast_S16x48x32x32_S16x48x32x32x1_0_1_2_3
      (Host.reduceAdd (shiftedExp p) (constant S_ .f32 0x00000000#32) reducesTo_S16x48x32x32x10_S16x48x32x32_d4 h_S_)))

/-- The lengths of the bins: a softmax, scaled, above the least. -/
def lengths : FVec Ideal S16x48x32x32x10 .f32 :=
  addf (broadcastInDim S16x48x32x32x10 ![] bcast_S_S16x48x32x32x10 (constant S_ .f32 0x3C23D70A#32))
    (mulf (broadcastInDim S16x48x32x32x10 ![] bcast_S_S16x48x32x32x10 (constant S_ .f32 0x3F666666#32)) (softmax p))

/-- The greatest of the ten. -/
theorem top_at {w : ℕ → ℝ} (hp : ∀ k : Fin 10, p (ix5 i c a b k) = ((w k : ℝ) : EReal)) :
    maximumf (broadcastInDim S16x48x32x32 ![] bcast_S_S16x48x32x32 (constant (F := Ideal) S_ .f32 0xFF800000#32))
        (Host.reduce FloatOps.maximumf p (constant (F := Ideal) S_ .f32 0xFF800000#32) reducesTo_S16x48x32x32x10_S16x48x32x32_d4 h_S_)
        (ix4 i c a b)
      = max (⊥ : EReal) (univ.fold max (⊥ : EReal) fun k : Fin 10 => ((w k : ℝ) : EReal)) := by
  refine (top_last _ _ _ _ _ i c a b).trans ?_
  have hb : ∀ j, broadcastInDim S16x48x32x32 ![] bcast_S_S16x48x32x32 (constant (F := Ideal) S_ .f32 0xFF800000#32) j = (⊥ : EReal) :=
    fun j => bits_bot
  have hc : ∀ j, constant (F := Ideal) S_ .f32 0xFF800000#32 j = (⊥ : EReal) := fun j => bits_bot
  rw [hb, hc]
  simp only [hp]

/-- The shifted exponentials at an element. -/
theorem shiftedExp_at {w : ℕ → ℝ} (hp : ∀ k : Fin 10, p (ix5 i c a b k) = ((w k : ℝ) : EReal)) :
    ∃ M : ℝ, ∀ k : Fin 10, shiftedExp p (ix5 i c a b k) = ((Real.exp (w k - M) : ℝ) : EReal) := by
  obtain ⟨M, hM⟩ := top_real fun k => w k
  refine ⟨M, fun k => ?_⟩
  have ht := (top_at p i c a b hp).trans hM
  rw [← exp_real, ← sub_real, ← ht, ← hp k]
  unfold shiftedExp
  generalize (maximumf (broadcastInDim S16x48x32x32 ![] bcast_S_S16x48x32x32 (constant (F := Ideal) S_ .f32 0xFF800000#32))
        (Host.reduce FloatOps.maximumf p (constant (F := Ideal) S_ .f32 0xFF800000#32) reducesTo_S16x48x32x32x10_S16x48x32x32_d4 h_S_)) = y
  pointwise

/-- A bin's length at an element. -/
theorem lengths_at {w : ℕ → ℝ} (hp : ∀ k : Fin 10, p (ix5 i c a b k) = ((w k : ℝ) : EReal)) (k : Fin 10) :
    lengths p (ix5 i c a b k) = ((least + free * (Real.exp (w k) / total w) : ℝ) : EReal) := by
  obtain ⟨M, hM⟩ := shiftedExp_at p i c a b hp
  rw [← shifted w M k]
  have hs : 0 < ∑ j : Fin 10, Real.exp (w j - M) := sum_pos (fun _ _ => Real.exp_pos _) ⟨0, mem_univ _⟩
  rw [← add_real, ← mul_real, ← div_real _ hs.ne', ← sum_real, ← bits_least, ← bits_free]
  simp only [← hM]
  pointwise [lengths, softmax]

/-- The knots: twice the running sums, less one, the two ends set. -/
def knots : FVec Ideal S16x48x32x32x11 .f32 :=
  concatenate S16x48x32x32x11 4
    [⟨S16x48x32x32x1, Host.negf (broadcastInDim S16x48x32x32x1 ![] bcast_S_S16x48x32x32x1 (constant (F := Ideal) S_ .f32 0x3F800000#32))⟩,
      ⟨S16x48x32x32x9, extractStridedSlice S16x48x32x32x9 ![0, 0, 0, 0, 0]
        (subf (mulf (broadcastInDim S16x48x32x32x10 ![] bcast_S_S16x48x32x32x10 (constant (F := Ideal) S_ .f32 0x40000000#32))
            (running (lengths p)))
          (broadcastInDim S16x48x32x32x10 ![] bcast_S_S16x48x32x32x10 (constant (F := Ideal) S_ .f32 0x3F800000#32)))
        slices_S16x48x32x32x10_S16x48x32x32x9_0_0_0_0_0⟩,
      ⟨S16x48x32x32x1, broadcastInDim S16x48x32x32x1 ![] bcast_S_S16x48x32x32x1 (constant (F := Ideal) S_ .f32 0x3F800000#32)⟩]
    concatenates_S16x48x32x32x1_S16x48x32x32x9_S16x48x32x32x1_S16x48x32x32x11_d4

/-- A knot in the interval, as twice a running sum. -/
theorem knot_running (w : ℕ → ℝ) {k : ℕ} (hk : k < 9) :
    knot w (k + 1) = 2 * (∑ j ∈ range (k + 1), (least + free * (Real.exp (w j) / total w))) - 1 := by
  rw [knot_of_lt w (by omega), mul_sum, add_comm, sub_eq_add_neg]
  refine congrArg (· + (-1 : ℝ)) (sum_congr rfl fun j _ => ?_)
  rw [len]; ring

/-- A knot at an element is that of `Spec.lean`. -/
theorem knots_at {w : ℕ → ℝ} (hp : ∀ k : Fin 10, p (ix5 i c a b k) = ((w k : ℝ) : EReal)) (k : Fin 11) :
    knots p (ix5 i c a b k) = ((knot w k : ℝ) : EReal) := by
  have hr := running_at (lengths p) i c a b (r := fun k => least + free * (Real.exp (w k) / total w)) (lengths_at p i c a b hp)
  pointwise [knots, hr]
  by_cases h0 : k.val < 1
  · rw [dif_pos h0, show k.val = 0 by omega, knot_zero, EReal.coe_neg, EReal.coe_one]
  · rw [dif_neg h0]
    by_cases h1 : k.val - 1 < 9
    · rw [dif_pos h1, bits_two, mul_real, ← EReal.coe_one, sub_real, ← knot_running w h1, show k.val - 1 + 1 = k.val by omega]
    · rw [dif_neg h1, show k.val = 10 by omega, knot_ten, EReal.coe_one]

end

/-- The program's knots of the widths. -/
theorem val_main_v48_eq (x0 : FVec Ideal S16x96x32x32 .f32) (x1 : FVec Ideal S1392x48x1x1 .f32) (x2 : FVec Ideal S1392 .f32) :
    Read.val_main_v48 (F := Ideal) x0 x1 x2 = knots (Read.val_main_v10 (F := Ideal) x0 x1 x2) := rfl

/-- The program's knots of the heights. -/
theorem val_main_v79_eq (x0 : FVec Ideal S16x96x32x32 .f32) (x1 : FVec Ideal S1392x48x1x1 .f32) (x2 : FVec Ideal S1392 .f32) :
    Read.val_main_v79 (F := Ideal) x0 x1 x2 = knots (Read.val_main_v11 (F := Ideal) x0 x1 x2) := rfl

end Cert.ReferenceIdeal.Spline

end
-- ==== Proof.RefTake.lean ====
/-
  Reading one of ten along the last axis, as the reference does it: a negative number is taken from the end, a number
  out of range gives the fill value. A number from 0 to 9 reads the element it names.
-/
module

public import proofs.«01_k».proof.Proof.RefKnots
public import Idealize.ShloMosaic.Lib.ValueIdxRank6

@[expose] public section

set_option maxRecDepth 16384

noncomputable section

namespace Cert.ReferenceIdeal.Spline

open Cert.ReferenceIdeal Cert.ReferenceIdeal.Gen Cert.Spline Idealize.ShloMosaic Idealize.ShloMosaic.TcCoe Idealize.SL.Sem Finset

/-- A reduction over the last of six axes, of length one, at an element. -/
theorem fold_one {n0 n1 n2 n3 n4 : ℕ} {α : Type} (op : α → α → α) [Std.Commutative op] [Std.Associative op]
    (h : (⟨6, ![n0, n1, n2, n3, n4, 1]⟩ : Shape).ReducesTo [5] ⟨5, ![n0, n1, n2, n3, n4]⟩) {u : Shape} (hu : 0 < u.numel)
    (v : (⟨6, ![n0, n1, n2, n3, n4, 1]⟩ : Shape).Idx → α) (init : u.Idx → α)
    (i : Fin n0) (c : Fin n1) (a : Fin n2) (b : Fin n3) (k : Fin n4) :
    Host.reduce op v init h hu (ix5 i c a b k) = op (v (ix6 i c a b k 0)) (init (Shape.Idx.first hu)) := by
  rw [Host.reduce_eq_fold]
  have hf : (univ.filter fun j => h.drop j = ix5 i c a b k) = {ix6 i c a b k 0} := by
    ext j
    rw [mem_filter, mem_singleton]
    have hv : ∀ d : Fin 5, (h.drop j d : ℕ) = j ⟨d, by have := d.isLt; show (d : ℕ) < 6; omega⟩ := by
      intro d
      match d with
      | ⟨0, _⟩ => exact Shape.ReducesTo.drop_apply_val h j 0
      | ⟨1, _⟩ => exact Shape.ReducesTo.drop_apply_val h j 1
      | ⟨2, _⟩ => exact Shape.ReducesTo.drop_apply_val h j 2
      | ⟨3, _⟩ => exact Shape.ReducesTo.drop_apply_val h j 3
      | ⟨4, _⟩ => exact Shape.ReducesTo.drop_apply_val h j 4
    constructor
    · rintro ⟨-, e⟩
      rw [e] at hv
      funext d
      match d with
      | ⟨0, _⟩ => exact Fin.ext (hv 0).symm
      | ⟨1, _⟩ => exact Fin.ext (hv 1).symm
      | ⟨2, _⟩ => exact Fin.ext (hv 2).symm
      | ⟨3, _⟩ => exact Fin.ext (hv 3).symm
      | ⟨4, _⟩ => exact Fin.ext (hv 4).symm
      | ⟨5, _⟩ => exact Subsingleton.elim (α := Fin 1) _ _
    · rintro rfl
      refine ⟨mem_univ _, funext fun d => Fin.ext ((hv d).trans ?_)⟩
      match d with
      | ⟨0, _⟩ => rfl
      | ⟨1, _⟩ => rfl
      | ⟨2, _⟩ => rfl
      | ⟨3, _⟩ => rfl
      | ⟨4, _⟩ => rfl
  rw [hf, fold_singleton]

/-- A choice at an element. -/
theorem select_read {s : Shape} {α : Type} (m : IVec s 1) (x y : s.Idx → α) (j : s.Idx) :
    select m x y j = Scalar.select (m j) (x j) (y j) := rfl

/-- A gather at an element. -/
theorem gather_read {s si t : Shape} {α : Type} {w : ℕ} (d : GatherDims s si t) (x : s.Idx → α) (n : IVec si w) (j : t.Idx) :
    Host.gather d x n j = x (d.operandIdx j n) := rfl

/-- Which axes are read by number and which are shared. -/
abbrev takeDims : GatherDims S16x48x32x32x10 S16x48x32x32x1x1 S16x48x32x32x1 :=
  gather_S16x48x32x32x10_S16x48x32x32x1x1_S16x48x32x32x1_n_4_0123_0123_4_5_11111

section
variable (t : FVec Ideal S16x48x32x32x10 .f32) (n : IVec S16x48x32x32x1 32)

/-- The number, a negative one counted from the end. -/
def wrapped : IVec S16x48x32x32x1 32 :=
  select (cmpi .slt n (broadcastInDim S16x48x32x32x1 ![] bcast_S_S16x48x32x32x1 (constantI S_ 32 0#32)))
    (addi n (broadcastInDim S16x48x32x32x1 ![] bcast_S_S16x48x32x32x1 (constantI S_ 32 10#32))) n

/-- The same with one more axis. -/
def spot : IVec S16x48x32x32x1x1 32 := shapeCast _ (wrapped n) shapeCasts_S16x48x32x32x1_S16x48x32x32x1x1

/-- Whether it is in range. -/
def valid : IVec S16x48x32x32x1x1 1 :=
  andi (cmpi .sge (spot n) (broadcastInDim S16x48x32x32x1x1 ![] bcast_S_S16x48x32x32x1x1 (constantI S_ 32 0#32)))
    (cmpi .sle (spot n) (broadcastInDim S16x48x32x32x1x1 ![0, 1, 2, 3, 4, 5] bcast_S1x1x1x1x1x1_S16x48x32x32x1x1_0_1_2_3_4_5
      (broadcastInDim S1x1x1x1x1x1 ![5] bcast_S1_S1x1x1x1x1x1_5 (constantI S1 32 9#32))))

/-- The elements read. -/
def takeOf : FVec Ideal S16x48x32x32x1 .f32 :=
  select (Host.reduce IntOp.andi (valid n) (constantI S_ 1 1#1) reducesTo_S16x48x32x32x1x1_S16x48x32x32x1_d5 h_S_)
    (Host.gather takeDims t (spot n))
    (broadcastInDim S16x48x32x32x1 ![] bcast_S_S16x48x32x32x1 (constant S_ .f32 0x7FC00000#32))

variable (i : Fin 16) (c : Fin 48) (a b : Fin 32) (N : Fin 10)

/-- A number of a bin is not negative, and stays. -/
theorem wrapped_at (hn : n (ix5 i c a b 0) = BitVec.ofNat 32 N) : wrapped n (ix5 i c a b 0) = BitVec.ofNat 32 N := by
  show Scalar.select (IntOp.cmpi .slt (n (ix5 i c a b 0)) 0#32) (IntOp.addi (n (ix5 i c a b 0)) 10#32) (n (ix5 i c a b 0)) = _
  rw [hn]
  clear hn; revert N; decide

/-- The number at an element, with one more axis. -/
theorem spot_at : spot n (ix6 i c a b 0 0) = wrapped n (ix5 i c a b 0) := by
  refine shapeCast_apply _ _ _ _ ?_
  rw [Shape.rowMajor_val_five, Shape.rowMajor_val_six]
  simp

/-- A number of a bin is in range. -/
theorem valid_at (hn : n (ix5 i c a b 0) = BitVec.ofNat 32 N) : valid n (ix6 i c a b 0 0) = 1#1 := by
  show IntOp.andi (IntOp.cmpi .sge (spot n (ix6 i c a b 0 0)) 0#32) (IntOp.cmpi .sle (spot n (ix6 i c a b 0 0)) 9#32) = _
  rw [spot_at, wrapped_at n i c a b N hn]
  clear hn; revert N; decide

/-- Where the element is read, on the four axes shared with the numbers. -/
theorem operand_batch (d : Fin 5) (hd : d ∈ takeDims.operandBatchingDims) :
    (takeDims.operandIdx (ix5 i c a b 0) (spot n) d : ℕ) = takeDims.batchCoord (ix5 i c a b 0) d := by
  show takeDims.start _ _ d + _ + takeDims.offCoord _ d = _
  rw [GatherDims.start_batching _ _ _ _ hd, GatherDims.offCoord_eq_zero _ _ _ fun h => ((GatherDims.mem_sKept _ _).mp h).2 hd,
    Nat.zero_add, Nat.add_zero]

/-- Which number says where. -/
theorem number_at (k : Fin takeDims.startIndexMap.length) : takeDims.siIdx (ix5 i c a b 0) k = ix6 i c a b 0 0 := by
  funext e
  match e with
  | ⟨0, _⟩ => rfl
  | ⟨1, _⟩ => rfl
  | ⟨2, _⟩ => rfl
  | ⟨3, _⟩ => rfl
  | ⟨4, _⟩ => rfl
  | ⟨5, _⟩ => exact Subsingleton.elim (α := Fin 1) _ _

/-- Which element is read. -/
theorem operand_at (hn : n (ix5 i c a b 0) = BitVec.ofNat 32 N) :
    takeDims.operandIdx (ix5 i c a b 0) (spot n) = ix5 i c a b N := by
  funext d
  refine Fin.ext ?_
  match d with
  | ⟨0, _⟩ => exact operand_batch n i c a b 0 (by decide)
  | ⟨1, _⟩ => exact operand_batch n i c a b 1 (by decide)
  | ⟨2, _⟩ => exact operand_batch n i c a b 2 (by decide)
  | ⟨3, _⟩ => exact operand_batch n i c a b 3 (by decide)
  | ⟨4, _⟩ =>
    show takeDims.start _ _ 4 + takeDims.batchCoord _ 4 + takeDims.offCoord _ 4 = N.val
    rw [GatherDims.batchCoord_eq_zero _ _ _ (by decide),
      GatherDims.offCoord_eq_zero _ _ _ fun h => ((GatherDims.mem_sKept _ _).mp h).1 (List.mem_singleton.mpr rfl), Nat.add_zero]
    unfold GatherDims.start
    rw [dif_pos (show (4 : Fin 5) ∈ takeDims.startIndexMap from List.mem_singleton.mpr rfl), number_at, spot_at, wrapped_at n i c a b N hn]
    clear hn; revert N; decide

/-- Reading at number `N` gives the element there. -/
theorem takeOf_at (hn : n (ix5 i c a b 0) = BitVec.ofNat 32 N) : takeOf t n (ix5 i c a b 0) = t (ix5 i c a b N) := by
  have ho := congrArg t (operand_at n i c a b N hn)
  have hv := fold_one IntOp.andi reducesTo_S16x48x32x32x1x1_S16x48x32x32x1_d5 h_S_ (valid n) (constantI S_ 1 1#1) i c a b 0
  rw [valid_at n i c a b N hn] at hv
  unfold takeOf
  rw [select_read, hv, gather_read, ho]
  rfl

end

section
variable (x0 : FVec Ideal S16x96x32x32 .f32) (x1 : FVec Ideal S1392x48x1x1 .f32) (x2 : FVec Ideal S1392 .f32)

/-- The program's reading of the left knot. -/
theorem val_main_v98_eq : Read.val_main_v98 (F := Ideal) x0 x1 x2 = takeOf (Read.val_main_v97 (F := Ideal) x0 x1 x2) (Read.val_main_v96 (F := Ideal) x0 x1 x2) := rfl
/-- The program's reading of the width. -/
theorem val_main_v100_eq : Read.val_main_v100 (F := Ideal) x0 x1 x2 = takeOf (Read.val_main_v51 (F := Ideal) x0 x1 x2) (Read.val_main_v96 (F := Ideal) x0 x1 x2) := rfl
/-- The program's reading of the lower knot. -/
theorem val_main_v103_eq : Read.val_main_v103 (F := Ideal) x0 x1 x2 = takeOf (Read.val_main_v102 (F := Ideal) x0 x1 x2) (Read.val_main_v96 (F := Ideal) x0 x1 x2) := rfl
/-- The program's reading of the mean slope. -/
theorem val_main_v106_eq : Read.val_main_v106 (F := Ideal) x0 x1 x2 = takeOf (Read.val_main_v105 (F := Ideal) x0 x1 x2) (Read.val_main_v96 (F := Ideal) x0 x1 x2) := rfl
/-- The program's reading of the left slope. -/
theorem val_main_v109_eq : Read.val_main_v109 (F := Ideal) x0 x1 x2 = takeOf (Read.val_main_v108 (F := Ideal) x0 x1 x2) (Read.val_main_v96 (F := Ideal) x0 x1 x2) := rfl
/-- The program's reading of the right slope. -/
theorem val_main_v112_eq : Read.val_main_v112 (F := Ideal) x0 x1 x2 = takeOf (Read.val_main_v111 (F := Ideal) x0 x1 x2) (Read.val_main_v96 (F := Ideal) x0 x1 x2) := rfl
/-- The program's reading of the height. -/
theorem val_main_v114_eq : Read.val_main_v114 (F := Ideal) x0 x1 x2 = takeOf (Read.val_main_v82 (F := Ideal) x0 x1 x2) (Read.val_main_v96 (F := Ideal) x0 x1 x2) := rfl

end

end Cert.ReferenceIdeal.Spline

end
-- ==== Proof.RefSlopes.lean ====
/-
  The reference's slopes at an element: nine parameters, padded at both ends by a constant whose slope is one, each
  through a softplus above the least slope, are the slopes of `Spec.lean`.
-/
module

public import proofs.«01_k».proof.Proof.RefKnots

@[expose] public section

set_option maxRecDepth 16384

noncomputable section

namespace Cert.ReferenceIdeal.Spline

open Cert.ReferenceIdeal Cert.ReferenceIdeal.Gen Cert.Spline Idealize.ShloMosaic Idealize.ShloMosaic.TcCoe Idealize.SL.Sem Finset

/-- The softplus, split so that the exponential stays at most one, is the plain one. -/
theorem softplus_split (r : ℝ) : max r 0 + Real.log (1 + Real.exp (-|r|)) = Real.log (1 + Real.exp r) := by
  rcases le_total 0 r with h | h
  · rw [max_eq_left h, abs_of_nonneg h, ← Real.log_exp r, ← Real.log_mul (Real.exp_pos _).ne' (by positivity), Real.log_exp, mul_add,
      mul_one, ← Real.exp_add, add_neg_cancel, Real.exp_zero, add_comm]
  · rw [max_eq_right h, abs_of_nonpos h, neg_neg, zero_add]

/-- The padding's softplus and the least slope make one. -/
theorem least_softplus : least + Real.log (1 + Real.exp (Real.log (Real.exp (1 - least) - 1))) = 1 := by
  have h : 0 < Real.exp (1 - least) - 1 := by
    have : (0 : ℝ) < 1 - least := by unfold least; norm_num
    linarith [Real.add_one_lt_exp this.ne']
  rw [Real.exp_log h, add_sub_cancel, Real.log_exp, add_sub_cancel]

section
variable (p : FVec Ideal S16x48x32x32x11 .f32)

/-- A parameter as the softplus takes it, less zero. -/
def lessZero : FVec Ideal S16x48x32x32x11 .f32 :=
  subf p (broadcastInDim S16x48x32x32x11 ![] bcast_S_S16x48x32x32x11 (constant S_ .f32 0x00000000#32))

/-- The slopes: a softplus above the least. -/
def slopes : FVec Ideal S16x48x32x32x11 .f32 :=
  addf (broadcastInDim S16x48x32x32x11 ![] bcast_S_S16x48x32x32x11 (constant S_ .f32 0x3C23D70A#32))
    (select (cmpf .une (lessZero p) (lessZero p))
      (addf p (broadcastInDim S16x48x32x32x11 ![] bcast_S_S16x48x32x32x11 (constant S_ .f32 0x00000000#32)))
      (addf (maximumf p (broadcastInDim S16x48x32x32x11 ![] bcast_S_S16x48x32x32x11 (constant S_ .f32 0x00000000#32)))
        (Host.log1p (Host.exp (Host.negf (Host.absf (lessZero p)))))))

/-- A slope at an element. -/
theorem slopes_at (j : S16x48x32x32x11.Idx) {r : ℝ} (hp : p j = ((r : ℝ) : EReal)) :
    slopes p j = ((least + Real.log (1 + Real.exp r) : ℝ) : EReal) := by
  have hz : lessZero p j = ((r : ℝ) : EReal) := by
    show p j - Ideal.ofBits .f32 0x00000000#32 = _
    rw [hp, bits_zero, sub_real, sub_zero]
  show Ideal.ofBits .f32 0x3C23D70A#32 + Scalar.select (Ideal.cmp .une (lessZero p j) (lessZero p j))
    (p j + Ideal.ofBits .f32 0x00000000#32)
    (max (p j) (Ideal.ofBits .f32 0x00000000#32) + Ideal.log (1 + Ideal.exp (-max (lessZero p j) (-lessZero p j)))) = _
  rw [hz, hp, bits_zero, bits_least]
  have hu : Ideal.cmp .une ((r : ℝ) : EReal) ((r : ℝ) : EReal) = 0#1 := by simp [Ideal.cmp]
  have h1 : (0 : ℝ) < 1 + Real.exp (-|r|) := by positivity
  rw [hu, ← EReal.coe_neg, max_real, max_real, ← EReal.coe_neg, exp_real, ← EReal.coe_one, ← abs_eq_max_neg, add_real 1, log_real h1]
  show ((least : ℝ) : EReal) + (((max r 0 : ℝ) : EReal) + ((Real.log (1 + Real.exp (-|r|)) : ℝ) : EReal)) = _
  rw [add_real, softplus_split]
  exact add_real _ _

end

variable (x0 : FVec Ideal S16x96x32x32 .f32) (x1 : FVec Ideal S1392x48x1x1 .f32) (x2 : FVec Ideal S1392 .f32)

/-- The program's slopes. -/
theorem val_main_v54_eq : Read.val_main_v54 (F := Ideal) x0 x1 x2 = slopes (Read.val_main_v17 (F := Ideal) x0 x1 x2) := rfl

/-- The padding. -/
theorem val_main_v16_at (j : S_.Idx) :
    Read.val_main_v16 (F := Ideal) j = ((Real.log (Real.exp (1 - least) - 1) : ℝ) : EReal) := by
  show Ideal.log (Ideal.exp (Ideal.ofBits .f32 0x3F800000#32 - Ideal.ofBits .f32 0x3C23D70A#32) - Ideal.ofBits .f32 0x3F800000#32) = _
  have h : 0 < Real.exp (1 - least) - 1 := by
    have : (0 : ℝ) < 1 - least := by unfold least; norm_num
    linarith [Real.add_one_lt_exp this.ne']
  rw [bits_one, bits_least, sub_real, exp_real, sub_real, log_real h]

variable (i : Fin 16) (c : Fin 48) (a b : Fin 32)

/-- The padded parameters at an element. -/
theorem val_main_v17_at {d : ℕ → ℝ}
    (hd : ∀ k : Fin 9, Read.val_main_v12 (F := Ideal) x0 x1 x2 (ix5 i c a b k) = ((d k : ℝ) : EReal)) (k : Fin 11) :
    Read.val_main_v17 (F := Ideal) x0 x1 x2 (ix5 i c a b k)
      = (((if k.val = 0 ∨ 10 ≤ k.val then Real.log (Real.exp (1 - least) - 1) else d (k - 1)) : ℝ) : EReal) := by
  have hc := val_main_v16_at
  unfold Read.val_main_v17
  generalize Read.val_main_v16 (F := Ideal) = y at *
  generalize Read.val_main_v12 (F := Ideal) x0 x1 x2 = p at *
  pointwise
  by_cases h : k.val = 0 ∨ 10 ≤ k.val
  · rw [dif_neg (by omega), if_pos h, hc]
  · rw [dif_pos (by omega), if_neg h, hd]

/-- The slopes at the eleven knots. -/
theorem val_main_v54_at {d : ℕ → ℝ}
    (hd : ∀ k : Fin 9, Read.val_main_v12 (F := Ideal) x0 x1 x2 (ix5 i c a b k) = ((d k : ℝ) : EReal)) (k : Fin 11) :
    Read.val_main_v54 (F := Ideal) x0 x1 x2 (ix5 i c a b k) = ((Cert.Spline.slope d k : ℝ) : EReal) := by
  rw [val_main_v54_eq, slopes_at _ _ (val_main_v17_at x0 x1 x2 i c a b hd k)]
  unfold Cert.Spline.slope
  by_cases h : k.val = 0 ∨ 10 ≤ k.val
  · rw [if_pos h, if_pos h, least_softplus]
  · rw [if_neg h, if_neg h]

end Cert.ReferenceIdeal.Spline

end
-- ==== Proof.RefParams.lean ====
/-
  The reference's parameters at an element: products of the weights with the first half of the channels, the bias zero,
  regrouped by channel.
-/
module

public import proofs.«01_k».proof.Proof.RefKnots
public import proofs.«01_k».proof.Proof.Target
public import Idealize.ShloMosaic.Lib.Pointwise

@[expose] public section

set_option maxRecDepth 16384

noncomputable section

namespace Cert.ReferenceIdeal.Spline

open Cert.ReferenceIdeal Cert.ReferenceIdeal.Gen Cert.Spline Idealize.ShloMosaic Idealize.ShloMosaic.TcCoe Idealize.SL.Sem Finset

variable (x0 : FVec Ideal S16x96x32x32 .f32) (x1 : FVec Ideal S1392x48x1x1 .f32) (x2 : FVec Ideal S1392 .f32)

/-- The input by coordinates. -/
def zf (i : Fin 16) (q : Fin 96) (a b : Fin 32) : EReal := x0 (ix4 i q a b)

/-- The weights by coordinates. -/
def wf (r : Fin 1392) (q : Fin 48) : EReal := x1 (ix4 r q 0 0)

variable (i : Fin 16) (c : Fin 48) (a b : Fin 32)

/-- The parameters before they are regrouped. -/
theorem val_main_v7_at (r : Fin 1392) (hf : Finite (zf x0) (wf x1)) (hb : ∀ j, x2 j = 0) :
    Read.val_main_v7 (F := Ideal) x0 x1 x2 (ix4 i r a b) = ((theta (wf x1) (pixel (zf x0) i a b) r : ℝ) : EReal) := by
  rw [theta_of_lt _ _ r.isLt]
  have hs := sum_mul_real (f := fun q => wf x1 r q) (g := fun q => pixel (zf x0) i a b q) (hf.weights r)
    (fun q => hf.input i ⟨q, by omega⟩ a b q.isLt)
  refine Eq.trans ?_ hs
  pointwise [Read.val_main_v7, Read.val_main_v6, Read.val_main_v5, Read.val_main_v4, Read.val_main_v3, Read.val_main_v2, Read.val_main_v0]
  rw [hb, add_zero]
  exact sum_congr rfl fun q _ => mul_comm _ _

/-- The parameters at an element. -/
theorem val_main_v9_at (hf : Finite (zf x0) (wf x1)) (hb : ∀ j, x2 j = 0) (k : Fin 29) :
    Read.val_main_v9 (F := Ideal) x0 x1 x2 (ix5 i c a b k) = ((par (zf x0) (wf x1) i c a b k : ℝ) : EReal) := by
  have h7 := fun r => val_main_v7_at x0 x1 x2 i a b r hf hb
  unfold Read.val_main_v9 Read.val_main_v8
  generalize Read.val_main_v7 (F := Ideal) x0 x1 x2 = p at *
  pointwise
  rw [h7, par, if_pos k.isLt]

/-- The parameters of the widths. -/
theorem val_main_v10_at (hf : Finite (zf x0) (wf x1)) (hb : ∀ j, x2 j = 0) (k : Fin 10) :
    Read.val_main_v10 (F := Ideal) x0 x1 x2 (ix5 i c a b k) = ((par (zf x0) (wf x1) i c a b k : ℝ) : EReal) := by
  refine Eq.trans ?_ (val_main_v9_at x0 x1 x2 i c a b hf hb ⟨k, by omega⟩)
  unfold Read.val_main_v10
  pointwise

/-- The parameters of the heights. -/
theorem val_main_v11_at (hf : Finite (zf x0) (wf x1)) (hb : ∀ j, x2 j = 0) (k : Fin 10) :
    Read.val_main_v11 (F := Ideal) x0 x1 x2 (ix5 i c a b k) = ((par (zf x0) (wf x1) i c a b (10 + k) : ℝ) : EReal) := by
  refine Eq.trans ?_ (val_main_v9_at x0 x1 x2 i c a b hf hb ⟨10 + k, by omega⟩)
  unfold Read.val_main_v11
  pointwise

/-- The parameters of the slopes. -/
theorem val_main_v12_at (hf : Finite (zf x0) (wf x1)) (hb : ∀ j, x2 j = 0) (k : Fin 9) :
    Read.val_main_v12 (F := Ideal) x0 x1 x2 (ix5 i c a b k) = ((par (zf x0) (wf x1) i c a b (20 + k) : ℝ) : EReal) := by
  refine Eq.trans ?_ (val_main_v9_at x0 x1 x2 i c a b hf hb ⟨20 + k, by omega⟩)
  unfold Read.val_main_v12
  pointwise

end Cert.ReferenceIdeal.Spline

end
-- ==== Proof.RefBin.lean ====
/-
  The reference's bin at an element: how many knots the input has reached, less one, is the bin of `Spec.lean`. The last
  knot is moved up by a little there, so no input in the interval reaches it.
-/
module

public import proofs.«01_k».proof.Proof.RefParams

@[expose] public section

set_option maxRecDepth 16384

noncomputable section

namespace Cert.ReferenceIdeal.Spline

open Cert.ReferenceIdeal Cert.ReferenceIdeal.Gen Cert.Spline Idealize.ShloMosaic Idealize.ShloMosaic.TcCoe Idealize.SL.Sem Finset

/-- A count of the first of eleven. -/
theorem count_first (n : Fin 10) :
    (univ.fold IntOp.addi 0#32 fun k : Fin 11 => (BitVec.ofBool (decide (k.val ≤ n.val))).setWidth 32) = BitVec.ofNat 32 (n + 1) := by
  revert n; decide

/-- How far the last knot is moved. -/
def shift : ℝ := 8796093 / 2 ^ 43

/-- The last knot is moved to the right. -/
theorem shift_pos : 0 < shift := by unfold shift; norm_num

/-- How far it is moved, as the program writes it. -/
theorem bits_shift : Ideal.ofBits .f32 0x358637BD#32 = ((shift : ℝ) : EReal) := by
  simp [Ideal.ofBits, Ideal.ieee, shift, -EReal.coe_mul]; norm_num

variable (x0 : FVec Ideal S16x96x32x32 .f32) (x1 : FVec Ideal S1392x48x1x1 .f32) (x2 : FVec Ideal S1392 .f32)
variable (i : Fin 16) (c : Fin 48) (a b : Fin 32)

/-- The transformed half at an element. -/
def xf : EReal := zf x0 i ⟨48 + c, by omega⟩ a b

/-- The transform half's element, as one of the input. -/
theorem val_main_v1_at : Read.val_main_v1 (F := Ideal) x0 (ix4 i c a b) = xf x0 i c a b := by
  unfold Read.val_main_v1 xf zf
  pointwise

/-- The clipped element. -/
theorem val_main_v23_at : Read.val_main_v23 (F := Ideal) x0 (ix4 i c a b) = min ((1 : ℝ) : EReal) (max ((-1 : ℝ) : EReal) (xf x0 i c a b)) := by
  show min (Ideal.ofBits .f32 0x3F800000#32) (max (Ideal.ofBits .f32 0xBF800000#32) (Read.val_main_v1 (F := Ideal) x0 (ix4 i c a b))) = _
  rw [val_main_v1_at, bits_one, bits_neg_one]

/-- The knots that are counted: the last is moved to the right. -/
theorem val_main_v87_at {w : ℕ → ℝ}
    (hw : ∀ k : Fin 11, Read.val_main_v48 (F := Ideal) x0 x1 x2 (ix5 i c a b k) = ((knot w k : ℝ) : EReal)) (k : Fin 11) :
    Read.val_main_v87 (F := Ideal) x0 x1 x2 (ix5 i c a b k)
      = (((if k.val < 10 then knot w k else 1 + shift) : ℝ) : EReal) := by
  unfold Read.val_main_v87 Read.val_main_v86 Read.val_main_v85 Read.val_main_v84 Read.val_main_v83 Read.val_main_cst_23
  generalize Read.val_main_v48 (F := Ideal) x0 x1 x2 = p at *
  pointwise
  by_cases h : k.val < 10
  · rw [dif_pos h, if_pos h]; exact hw ⟨k, _⟩
  · rw [dif_neg h, if_neg h, bits_shift]
    refine (congrArg (· + ((shift : ℝ) : EReal)) (hw ⟨10 + (k - 10), by omega⟩)).trans ?_
    rw [add_real]
    dsimp only
    rw [show 10 + (k.val - 10) = 10 by omega, knot_ten]

/-- The count of knots reached, less one, is the bin's number. -/
theorem val_main_v91_at {w : ℕ → ℝ}
    (hw : ∀ k : Fin 11, Read.val_main_v48 (F := Ideal) x0 x1 x2 (ix5 i c a b k) = ((knot w k : ℝ) : EReal))
    (hx : Inside (xf x0 i c a b)) (k : Fin 11) :
    Read.val_main_v91 (F := Ideal) x0 x1 x2 (ix5 i c a b k)
      = (BitVec.ofBool (decide (k.val ≤ bin w (xf x0 i c a b).toReal 9))).setWidth 32 := by
  have hv : Read.val_main_v89 (F := Ideal) x0 (ix5 i c a b k) = (((xf x0 i c a b).toReal : ℝ) : EReal) := by
    rw [← hx.clip, ← val_main_v23_at]
    unfold Read.val_main_v89 Read.val_main_v88
    generalize Read.val_main_v23 (F := Ideal) x0 = y
    pointwise
  show (Ideal.cmp .oge (Read.val_main_v89 (F := Ideal) x0 (ix5 i c a b k)) (Read.val_main_v87 (F := Ideal) x0 x1 x2 (ix5 i c a b k))).setWidth 32 = _
  rw [hv, val_main_v87_at x0 x1 x2 i c a b hw k, oge_eq]
  refine congrArg (fun p => (BitVec.ofBool p).setWidth 32) (decide_eq_decide.mpr ?_)
  rw [EReal.coe_le_coe_iff]
  by_cases h : k.val < 10
  · rw [if_pos h, knot_le_iff w hx.left h]
  · rw [if_neg h]
    have h1 := hx.right
    have h2 := shift_pos
    have h3 := bin_le w (xf x0 i c a b).toReal 9
    constructor
    · intro h4; linarith
    · intro h4; omega

/-- The clip to the ten bins changes nothing. -/
theorem val_main_v96_at {w : ℕ → ℝ}
    (hw : ∀ k : Fin 11, Read.val_main_v48 (F := Ideal) x0 x1 x2 (ix5 i c a b k) = ((knot w k : ℝ) : EReal))
    (hx : Inside (xf x0 i c a b)) :
    Read.val_main_v96 (F := Ideal) x0 x1 x2 (ix5 i c a b 0) = BitVec.ofNat 32 (bin w (xf x0 i c a b).toReal 9) := by
  obtain ⟨n, hn⟩ : ∃ n : Fin 10, n.val = bin w (xf x0 i c a b).toReal 9 := ⟨⟨_, Nat.lt_succ_of_le (bin_le _ _ 9)⟩, rfl⟩
  have h92 : Read.val_main_v92 (F := Ideal) x0 x1 x2 (ix4 i c a b) = BitVec.ofNat 32 (n + 1) := by
    refine (fold_last IntOp.addi reducesTo_S16x48x32x32x11_S16x48x32x32_d4 h_S_ (Read.val_main_v91 (F := Ideal) x0 x1 x2)
      (Read.val_main_c (F := Ideal)) i c a b).trans ?_
    simp only [val_main_v91_at x0 x1 x2 i c a b hw hx, ← hn]
    exact count_first n
  have h96 : Read.idx_main_v96 (ix5 i c a b 0) = ix4 i c a b := by
    funext d
    match d with
    | ⟨0, _⟩ => rfl
    | ⟨1, _⟩ => rfl
    | ⟨2, _⟩ => rfl
    | ⟨3, _⟩ => rfl
  rw [Read.val_main_v96_apply, h96, Read.val_main_v95_apply,
    Read.val_main_call4_v2_apply, Read.val_main_v94_apply, h92, ← hn]
  show IntOp.minsi 9#32 (IntOp.maxsi 0#32 (IntOp.subi (BitVec.ofNat 32 (n + 1)) 1#32)) = _
  clear hn h92; revert n; decide

end Cert.ReferenceIdeal.Spline

end
-- ==== Proof.RefValue.lean ====
/-
  The reference's two results, by coordinates: the same functions of the input and the weights as `Target.lean` states.
-/
module

public import proofs.«01_k».proof.Proof.RefTake
public import proofs.«01_k».proof.Proof.RefSlopes
public import proofs.«01_k».proof.Proof.RefBin

@[expose] public section

set_option maxRecDepth 16384

noncomputable section

namespace Cert.ReferenceIdeal.Spline

open Cert.ReferenceIdeal Cert.ReferenceIdeal.Gen Cert.Spline Idealize.ShloMosaic Idealize.ShloMosaic.TcCoe Idealize.SL.Sem Finset

/-- A sum over all axes but the first of four, at an element. -/
theorem sum_rest {n0 n1 n2 n3 : ℕ} (h : (⟨4, ![n0, n1, n2, n3]⟩ : Shape).ReducesTo [1, 2, 3] ⟨1, ![n0]⟩)
    (v : (⟨4, ![n0, n1, n2, n3]⟩ : Shape).Idx → EReal) (i : Fin n0) :
    Ideal.hostReduceAdd h v 0 (ix1 i) = ∑ c, ∑ a, ∑ b, v (ix4 i c a b) := by
  show 0 + ∑ j ∈ univ.filter (fun j => h.drop j = ix1 i), v j = _
  rw [zero_add, Finset.sum_filter_eq_sum_of_fiber _ (fun k : Fin n1 × Fin n2 × Fin n3 => (ix4 i k.1 k.2.1 k.2.2 : (⟨4, ![n0, n1, n2, n3]⟩ : Shape).Idx))
    (fun k l e => Prod.ext (congrFun e 1) (Prod.ext (congrFun e 2) (congrFun e 3))) ?_ v]
  · simp only [Fintype.sum_prod_type]
  · intro j
    have hv : (h.drop j 0 : ℕ) = j 0 := Shape.ReducesTo.drop_apply_val h j 0
    constructor
    · intro e
      rw [e] at hv
      refine ⟨(j 1, j 2, j 3), ?_⟩
      funext d
      match d with
      | ⟨0, _⟩ => exact Fin.ext hv
      | ⟨1, _⟩ => rfl
      | ⟨2, _⟩ => rfl
      | ⟨3, _⟩ => rfl
    · rintro ⟨k, rfl⟩
      funext d
      match d with
      | ⟨0, _⟩ => exact Fin.ext hv

variable (x0 : FVec Ideal S16x96x32x32 .f32) (x1 : FVec Ideal S1392x48x1x1 .f32) (x2 : FVec Ideal S1392 .f32)
variable (i : Fin 16) (c : Fin 48) (a b : Fin 32)

/-- The parameters of the widths, of the heights and of the slopes. -/
def pw (k : ℕ) : ℝ := par (zf x0) (wf x1) i c a b k
def ph (k : ℕ) : ℝ := par (zf x0) (wf x1) i c a b (10 + k)
def pd (k : ℕ) : ℝ := par (zf x0) (wf x1) i c a b (20 + k)

/-- The input as a real number, and its bin. -/
def xr : ℝ := (xf x0 i c a b).toReal
def nb : Fin 10 := ⟨bin (pw x0 x1 i c a b) (xr x0 i c a b) 9, Nat.lt_succ_of_le (bin_le _ _ 9)⟩

/-- The values the formula takes, at an element of the bin of `r`. -/
structure IsBin (w h d : ℕ → ℝ) (r : ℝ) (j : S16x48x32x32.Idx) : Prop where
  left : -1 ≤ r
  right : r ≤ 1
  v23 : Read.val_main_v23 (F := Ideal) x0 j = ((r : ℝ) : EReal)
  v99 : Read.val_main_v99 (F := Ideal) x0 x1 x2 j = ((knot w (bin w r 9) : ℝ) : EReal)
  v101 : Read.val_main_v101 (F := Ideal) x0 x1 x2 j = ((width w r : ℝ) : EReal)
  v104 : Read.val_main_v104 (F := Ideal) x0 x1 x2 j = ((knot h (bin w r 9) : ℝ) : EReal)
  v107 : Read.val_main_v107 (F := Ideal) x0 x1 x2 j = ((height w h r / width w r : ℝ) : EReal)
  v110 : Read.val_main_v110 (F := Ideal) x0 x1 x2 j = ((Cert.Spline.slope d (bin w r 9) : ℝ) : EReal)
  v113 : Read.val_main_v113 (F := Ideal) x0 x1 x2 j = ((Cert.Spline.slope d (bin w r 9 + 1) : ℝ) : EReal)
  v115 : Read.val_main_v115 (F := Ideal) x0 x1 x2 j = ((height w h r : ℝ) : EReal)

section
variable (hf : Finite (zf x0) (wf x1)) (hb : ∀ j, x2 j = 0)
include hf hb

/-- The knots of the widths at an element. -/
theorem val_main_v48_at (k : Fin 11) :
    Read.val_main_v48 (F := Ideal) x0 x1 x2 (ix5 i c a b k) = ((knot (pw x0 x1 i c a b) k : ℝ) : EReal) := by
  rw [val_main_v48_eq]
  exact knots_at _ i c a b (val_main_v10_at x0 x1 x2 i c a b hf hb) k

/-- The knots of the heights at an element. -/
theorem val_main_v79_at (k : Fin 11) :
    Read.val_main_v79 (F := Ideal) x0 x1 x2 (ix5 i c a b k) = ((knot (ph x0 x1 i c a b) k : ℝ) : EReal) := by
  rw [val_main_v79_eq]
  exact knots_at _ i c a b (w := ph x0 x1 i c a b) (val_main_v11_at x0 x1 x2 i c a b hf hb) k

/-- A bin's width. -/
theorem val_main_v51_at (k : Fin 10) : Read.val_main_v51 (F := Ideal) x0 x1 x2 (ix5 i c a b k)
    = ((knot (pw x0 x1 i c a b) (k + 1) - knot (pw x0 x1 i c a b) k : ℝ) : EReal) := by
  have hk := val_main_v48_at x0 x1 x2 i c a b hf hb
  unfold Read.val_main_v51 Read.val_main_v50 Read.val_main_v49
  generalize Read.val_main_v48 (F := Ideal) x0 x1 x2 = p at *
  rw [← sub_real, add_comm k.val 1]
  refine Eq.trans ?_ (congrArg₂ (· - ·) (hk ⟨1 + k, by omega⟩) (hk ⟨k, by omega⟩))
  pointwise

/-- A bin's height. -/
theorem val_main_v82_at (k : Fin 10) : Read.val_main_v82 (F := Ideal) x0 x1 x2 (ix5 i c a b k)
    = ((knot (ph x0 x1 i c a b) (k + 1) - knot (ph x0 x1 i c a b) k : ℝ) : EReal) := by
  have hk := val_main_v79_at x0 x1 x2 i c a b hf hb
  unfold Read.val_main_v82 Read.val_main_v81 Read.val_main_v80
  generalize Read.val_main_v79 (F := Ideal) x0 x1 x2 = p at *
  rw [← sub_real, add_comm k.val 1]
  refine Eq.trans ?_ (congrArg₂ (· - ·) (hk ⟨1 + k, by omega⟩) (hk ⟨k, by omega⟩))
  pointwise

/-- The slopes at an element. -/
theorem slopes_param (k : Fin 11) :
    Read.val_main_v54 (F := Ideal) x0 x1 x2 (ix5 i c a b k) = ((Cert.Spline.slope (pd x0 x1 i c a b) k : ℝ) : EReal) :=
  val_main_v54_at x0 x1 x2 i c a b (d := pd x0 x1 i c a b) (val_main_v12_at x0 x1 x2 i c a b hf hb) k

/-- What is read at the number of the bin. -/
theorem read_at (hx : Inside (xf x0 i c a b)) (t : FVec Ideal S16x48x32x32x10 .f32) :
    shapeCast S16x48x32x32 (takeOf t (Read.val_main_v96 (F := Ideal) x0 x1 x2)) shapeCasts_S16x48x32x32x1_S16x48x32x32 (ix4 i c a b)
      = t (ix5 i c a b (nb x0 x1 i c a b)) := by
  rw [← takeOf_at t _ i c a b (nb x0 x1 i c a b) (val_main_v96_at x0 x1 x2 i c a b (val_main_v48_at x0 x1 x2 i c a b hf hb) hx)]
  generalize takeOf t (Read.val_main_v96 (F := Ideal) x0 x1 x2) = p
  pointwise

/-- What the reference reads at an element on the interval, the bin known. -/
theorem isBin (hx : Inside (xf x0 i c a b)) :
    IsBin x0 x1 x2 (pw x0 x1 i c a b) (ph x0 x1 i c a b) (pd x0 x1 i c a b) (xr x0 i c a b) (ix4 i c a b) where
  left := hx.left
  right := hx.right
  v23 := (val_main_v23_at x0 i c a b).trans hx.clip
  v99 := by
    unfold Read.val_main_v99
    rw [val_main_v98_eq, read_at x0 x1 x2 i c a b hf hb hx]
    refine Eq.trans ?_ (val_main_v48_at x0 x1 x2 i c a b hf hb ⟨nb x0 x1 i c a b, by omega⟩)
    unfold Read.val_main_v97
    pointwise
  v101 := by
    unfold Read.val_main_v101
    rw [val_main_v100_eq, read_at x0 x1 x2 i c a b hf hb hx]
    exact val_main_v51_at x0 x1 x2 i c a b hf hb _
  v104 := by
    unfold Read.val_main_v104
    rw [val_main_v103_eq, read_at x0 x1 x2 i c a b hf hb hx]
    refine Eq.trans ?_ (val_main_v79_at x0 x1 x2 i c a b hf hb ⟨nb x0 x1 i c a b, by omega⟩)
    unfold Read.val_main_v102
    pointwise
  v107 := by
    unfold Read.val_main_v107
    rw [val_main_v106_eq, read_at x0 x1 x2 i c a b hf hb hx, Read.val_main_v105_apply, val_main_v82_at x0 x1 x2 i c a b hf hb,
      val_main_v51_at x0 x1 x2 i c a b hf hb]
    exact div_real _ (width_pos _ _).ne'
  v110 := by
    unfold Read.val_main_v110
    rw [val_main_v109_eq, read_at x0 x1 x2 i c a b hf hb hx]
    refine Eq.trans ?_ (slopes_param x0 x1 x2 i c a b hf hb ⟨nb x0 x1 i c a b, by omega⟩)
    unfold Read.val_main_v108
    pointwise
  v113 := by
    unfold Read.val_main_v113
    rw [val_main_v112_eq, read_at x0 x1 x2 i c a b hf hb hx, add_comm (bin _ _ 9) 1]
    refine Eq.trans ?_ (slopes_param x0 x1 x2 i c a b hf hb ⟨1 + nb x0 x1 i c a b, by omega⟩)
    unfold Read.val_main_v111
    pointwise
  v115 := by
    unfold Read.val_main_v115
    rw [val_main_v114_eq, read_at x0 x1 x2 i c a b hf hb hx]
    exact val_main_v82_at x0 x1 x2 i c a b hf hb _

end

/-! ## The formula, from what is read -/

section
variable {x0 x1 x2} {w h d : ℕ → ℝ} {r : ℝ} {j : S16x48x32x32.Idx} (hB : IsBin x0 x1 x2 w h d r j)
include hB

/-- The place in the bin. -/
theorem IsBin.v117 : Read.val_main_v117 (F := Ideal) x0 x1 x2 j = ((place w r : ℝ) : EReal) := by
  rw [Read.val_main_v117_apply, Read.val_main_v116_apply, hB.v23, hB.v99, hB.v101]
  show Ideal.div (((r : ℝ) : EReal) - ((knot w (bin w r 9) : ℝ) : EReal)) ((width w r : ℝ) : EReal) = _
  rw [sub_real]
  exact div_real _ (width_pos w r).ne'

/-- What is left of the bin. -/
theorem IsBin.v119 : Read.val_main_v119 (F := Ideal) x0 x1 x2 j = ((1 - place w r : ℝ) : EReal) := by
  rw [Read.val_main_v119_apply, hB.v117]
  show Ideal.ofBits .f32 0x3F800000#32 - ((place w r : ℝ) : EReal) = _
  rw [bits_one, sub_real]

/-- The place's complement. -/
theorem IsBin.v142 : Read.val_main_v142 (F := Ideal) x0 x1 x2 j = ((1 - place w r : ℝ) : EReal) := by
  rw [Read.val_main_v142_apply, hB.v117]
  show Ideal.ofBits .f32 0x3F800000#32 - ((place w r : ℝ) : EReal) = _
  rw [bits_one, sub_real]

/-- The place times its complement. -/
theorem IsBin.v120 : Read.val_main_v120 (F := Ideal) x0 x1 x2 j = ((place w r * (1 - place w r) : ℝ) : EReal) := by
  rw [Read.val_main_v120_apply, hB.v117, hB.v119]
  exact mul_real _ _

/-- The denominator. -/
theorem IsBin.v131 : Read.val_main_v131 (F := Ideal) x0 x1 x2 j
    = ((den (height w h r / width w r) (Cert.Spline.slope d (bin w r 9)) (Cert.Spline.slope d (bin w r 9 + 1)) (place w r) : ℝ) : EReal) := by
  rw [Read.val_main_v131_apply, Read.val_main_v130_apply, Read.val_main_v129_apply, Read.val_main_v128_apply, Read.val_main_v126_apply,
    hB.v107, hB.v110, hB.v113, hB.v120]
  generalize height w h r / width w r = m, Cert.Spline.slope d (bin w r 9) = e, Cert.Spline.slope d (bin w r 9 + 1) = f, place w r = t
  show (m : EReal) + ((e : EReal) + (f : EReal) - Ideal.ofBits .f32 0x40000000#32 * (m : EReal)) * ((t * (1 - t) : ℝ) : EReal) = _
  rw [bits_two, add_real, mul_real, sub_real, mul_real, add_real, den]

/-- The spline's value. -/
theorem IsBin.v133 : Read.val_main_v133 (F := Ideal) x0 x1 x2 j = ((spline w h d r : ℝ) : EReal) := by
  rw [Read.val_main_v133_apply, Read.val_main_v132_apply, Read.val_main_v125_apply, Read.val_main_v124_apply, Read.val_main_v123_apply,
    Read.val_main_v122_apply, Read.val_main_v121_apply, hB.v104, hB.v107, hB.v110, hB.v115, hB.v117, hB.v120, hB.v131]
  have hq := (spline_den_pos w h d hB.left hB.right).ne'
  rw [spline, Cert.Spline.val]
  generalize hm : height w h r / width w r = m at *
  clear hm
  generalize Cert.Spline.slope d (bin w r 9) = e, Cert.Spline.slope d (bin w r 9 + 1) = f, place w r = t,
    height w h r = y, knot h (bin w r 9) = v at *
  show (v : EReal) + Ideal.div ((y : EReal) * ((m : EReal) * ((t : EReal) * (t : EReal)) + (e : EReal) * ((t * (1 - t) : ℝ) : EReal)))
    ((den m e f t : ℝ) : EReal) = _
  simp only [mul_real, add_real]
  rw [div_real _ hq, add_real, mul_assoc m t t]

/-- The numerator of its slope. -/
theorem IsBin.v146 : Read.val_main_v146 (F := Ideal) x0 x1 x2 j
    = ((num (height w h r / width w r) (Cert.Spline.slope d (bin w r 9)) (Cert.Spline.slope d (bin w r 9 + 1)) (place w r) : ℝ) : EReal) := by
  rw [Read.val_main_v146_apply, Read.val_main_v145_apply, Read.val_main_v144_apply, Read.val_main_v143_apply, Read.val_main_v140_apply,
    Read.val_main_v139_apply, Read.val_main_v138_apply, Read.val_main_v136_apply, Read.val_main_v135_apply, Read.val_main_v134_apply,
    hB.v107, hB.v110, hB.v113, hB.v117, hB.v120, hB.v142]
  generalize height w h r / width w r = m, Cert.Spline.slope d (bin w r 9) = e, Cert.Spline.slope d (bin w r 9 + 1) = f, place w r = t
  show (m : EReal) * (m : EReal) * ((f : EReal) * ((t : EReal) * (t : EReal)) + Ideal.ofBits .f32 0x40000000#32 * (m : EReal) * ((t * (1 - t) : ℝ) : EReal)
    + (e : EReal) * (((1 - t : ℝ) : EReal) * ((1 - t : ℝ) : EReal))) = _
  rw [bits_two]
  simp only [mul_real, add_real]
  refine congrArg _ ?_
  rw [num]; ring

/-- The logarithm of its slope. -/
theorem IsBin.v151 : Read.val_main_v151 (F := Ideal) x0 x1 x2 j = ((splineLog w h d r : ℝ) : EReal) := by
  rw [Read.val_main_v151_apply, Read.val_main_v150_apply, Read.val_main_v148_apply, Read.val_main_v147_apply, hB.v146, hB.v131]
  have hq := spline_den_pos w h d hB.left hB.right
  have hn := spline_num_pos w h d hB.left hB.right
  rw [splineLog, logSlope]
  generalize height w h r / width w r = m, Cert.Spline.slope d (bin w r 9) = e, Cert.Spline.slope d (bin w r 9 + 1) = f, place w r = t at *
  show Ideal.log ((num m e f t : ℝ) : EReal) - Ideal.ofBits .f32 0x40000000#32 * Ideal.log ((den m e f t : ℝ) : EReal) = _
  rw [log_real hn, log_real hq, bits_two, mul_real, sub_real]

end

/-- Where the spline applies. -/
theorem val_main_v22_at : Read.val_main_v22 (F := Ideal) x0 (ix4 i c a b) = BitVec.ofBool (decide (Inside (xf x0 i c a b))) := by
  show BitVec.ofBool (decide (Ideal.ofBits .f32 0xBF800000#32 ≤ Read.val_main_v1 (F := Ideal) x0 (ix4 i c a b)))
    &&& BitVec.ofBool (decide (Read.val_main_v1 (F := Ideal) x0 (ix4 i c a b) ≤ Ideal.ofBits .f32 0x3F800000#32)) = _
  rw [val_main_v1_at, bits_neg_one, bits_one, and_bool]
  exact congrArg BitVec.ofBool (decide_eq_decide.mpr Iff.rfl)

section
variable (hf : Finite (zf x0) (wf x1)) (hb : ∀ j, x2 j = 0)
include hf hb

/-- The reference's output at an element of the transform half. -/
theorem val_main_v152_at : Read.val_main_v152 (F := Ideal) x0 x1 x2 (ix4 i c a b) = outZ (zf x0) (wf x1) i c a b := by
  rw [Read.val_main_v152_apply, val_main_v22_at, select_bool, outZ, outAt]
  by_cases hx : Inside (xf x0 i c a b)
  · rw [if_pos hx, (isBin x0 x1 x2 i c a b hf hb hx).v133]
    exact (if_pos hx).symm
  · rw [if_neg hx, val_main_v1_at]
    exact (if_neg hx).symm

/-- The reference's logarithm at an element of the transform half. -/
theorem val_main_v154_at : Read.val_main_v154 (F := Ideal) x0 x1 x2 (ix4 i c a b) = logZ (zf x0) (wf x1) i c a b := by
  rw [Read.val_main_v154_apply, val_main_v22_at, select_bool, logZ, logAt]
  by_cases hx : Inside (xf x0 i c a b)
  · rw [if_pos hx, (isBin x0 x1 x2 i c a b hf hb hx).v151]
    exact (if_pos hx).symm
  · rw [if_neg hx]
    refine Eq.trans ?_ (if_neg hx).symm
    exact bits_zero

/-- The first result. -/
theorem result_at (q : Fin 96) : Read.val_main_v155 (F := Ideal) x0 x1 x2 (ix4 i q a b) = resZ (zf x0) (wf x1) i q a b := by
  have h2 := fun c => val_main_v152_at x0 x1 x2 i c a b hf hb
  unfold Read.val_main_v155 Read.val_main_v0
  generalize Read.val_main_v152 (F := Ideal) x0 x1 x2 = p at *
  rw [resZ]
  pointwise
  simp only [h2]
  rfl

/-- The second result. -/
theorem det_at : Read.val_main_v156 (F := Ideal) x0 x1 x2 (ix1 i) = detZ (zf x0) (wf x1) i := by
  have h4 := fun c a b => val_main_v154_at x0 x1 x2 i c a b hf hb
  unfold Read.val_main_v156 Read.val_main_cst_33
  generalize Read.val_main_v154 (F := Ideal) x0 x1 x2 = p at *
  rw [detZ]
  simp only [← h4]
  pointwise
  exact sum_rest _ p i

end

end Cert.ReferenceIdeal.Spline

end
-- ==== Proof.RefRun.lean ====
/-
  The reference's run, read: its two results are the functions of `Target.lean`, from finite input and weights and a
  zero bias.
-/
module

public import proofs.«01_k».proof.Proof.RefValue
public import Idealize.ShloMosaic.Lib.Quiescent

@[expose] public section

set_option maxRecDepth 16384

noncomputable section

namespace Cert.ReferenceIdeal.Spline

open Cert.ReferenceIdeal Cert.ReferenceIdeal.Gen Cert.Spline Idealize.ShloMosaic Idealize.ShloMosaic.TcCoe Idealize.SL.Sem

variable (m : (ℓ : Loc nD τ sig) → Buf (Elt Ideal) ℓ) (ρ : Dev nD → PrngReg)

/-- The arguments. -/
abbrev arg0 (c : Dev nD) : FVec Ideal S16x96x32x32 .f32 := m ((c.tc : Thread nD τ).loc main_arg0)
abbrev arg1 (c : Dev nD) : FVec Ideal S1392x48x1x1 .f32 := m ((c.tc : Thread nD τ).loc main_arg1)
abbrev arg2 (c : Dev nD) : FVec Ideal S1392 .f32 := m ((c.tc : Thread nD τ).loc main_arg2)

/-- The results, by coordinates. -/
theorem results (x0 : FVec Ideal S16x96x32x32 .f32) (x1 : FVec Ideal S1392x48x1x1 .f32) (x2 : FVec Ideal S1392 .f32)
    (hf : Finite (zf x0) (wf x1)) (hb : ∀ j, x2 j = 0) :
    Read.val_main_v155 (F := Ideal) x0 x1 x2 = (fun j => resZ (zf x0) (wf x1) (j 0) (j 1) (j 2) (j 3))
      ∧ Read.val_main_v156 (F := Ideal) x0 x1 x2 = fun j => detZ (zf x0) (wf x1) (j 0) := by
  refine ⟨?_, ?_⟩
  · funext j
    idx_vars j
    exact result_at x0 x1 x2 _ _ _ hf hb _
  · funext j
    idx_vars j
    exact det_at x0 x1 x2 _ hf hb

/-- From finite inputs and a zero bias the reference ends with the layer's two results, its arguments unchanged. -/
theorem run (hf : ∀ c, Finite (zf (arg0 m c)) (wf (arg1 m c))) (hb : ∀ c j, arg2 m c j = 0) :
    θ_run defs (onTc (τ := τ) (main (F := Ideal))) ⟨m, fun _ => 0, ρ⟩ fun r => ∀ c : Dev nD,
      r.2.mem ((c.tc : Thread nD τ).loc main_v155)
          = (fun j => resZ (zf (arg0 m c)) (wf (arg1 m c)) (j 0) (j 1) (j 2) (j 3) : FVec Ideal S16x96x32x32 .f32)
      ∧ r.2.mem ((c.tc : Thread nD τ).loc main_v156)
          = (fun j => detZ (zf (arg0 m c)) (wf (arg1 m c)) (j 0) : FVec Ideal S16 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1.trans (Read.val_main_v155_eq _)).trans (results (arg0 m c) (arg1 m c) (arg2 m c) (hf c) (hb c)).1,
      ((h c).2.1.trans (Read.val_main_v156_eq _)).trans (results (arg0 m c) (arg1 m c) (arg2 m c) (hf c) (hb c)).2,
      (h c).2.2⟩)
    (Value.run (F := Ideal) m ρ)

/-- The reference ends, its arguments unchanged and every counter at zero. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2, sem_eq_zero_of_no_sems (by decide) r.2⟩)
    (Value.run (F := Ideal) m ρ)

end Cert.ReferenceIdeal.Spline

end
-- ==== Proof.Precondition.lean ====
/-
  What the precondition says: the first half of the input and the weights are finite, the bias is zero.
-/
module

public import proofs.«01_k».proof.Pre_finite_no_bias
public import proofs.«01_k».proof.Proof.Target
public import Idealize.ShloMosaic.Lib.ReduceAll
public import Idealize.ShloMosaic.Lib.Affine
public import Idealize.ShloMosaic.Lib.Pointwise

@[expose] public section

set_option maxRecDepth 16384

noncomputable section

namespace Cert.Pre_finite_no_bias

open Cert.Spline Idealize.ShloMosaic Facts

/-- Both of two truths whose conjunction holds. -/
theorem andi_split {s : Shape} {x y : IVec s 1} {j : s.Idx} (h : andi x y j = 1#1) : x j = 1#1 ∧ y j = 1#1 :=
  IntOp.andi_eq_one.mp h

/-- A number whose absolute value is below infinity is real. -/
theorem real_of_abs {x : EReal} (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  refine (EReal.coe_toReal ?_ ?_).symm
  · rintro rfl; simp at hlt
  · rintro rfl; simp at hlt

/-- An element that passes the test for finiteness is real. -/
theorem absf_lt {s : Shape} {x : FVec Ideal s .f32} {hb : S_.BroadcastsInDim s (![] : Fin 0 → Fin s.rank)} {j : s.Idx}
    (h : cmpf .olt (Host.absf x) (broadcastInDim s ![] hb (constant (F := Ideal) S_ .f32 0x7F800000#32)) j = 1#1) :
    x j = (((show EReal from x j).toReal : ℝ) : EReal) := real_of_abs h

variable [Facts]

/-- Under the precondition the identity half and the weights are finite and the bias is zero. -/
theorem finite_of {x0 : FVec Ideal S16x96x32x32 .f32} {x1 : FVec Ideal S1392x48x1x1 .f32} {x2 : FVec Ideal S1392 .f32}
    (h : fn (F := Ideal) x0 x1 x2 = fun _ => 1#1) :
    Finite (fun i q a b => x0 (ix4 i q a b)) (fun r q => x1 (ix4 r q 0 0)) ∧ ∀ j, x2 j = 0 := by
  have : Subsingleton S_.Idx := ⟨fun _ _ => funext fun d => d.elim0⟩
  have h0 := congrFun h fun d => d.elim0
  unfold fn at h0
  dsimp only at h0
  obtain ⟨h1, hb⟩ := andi_split h0
  obtain ⟨hz, hw⟩ := andi_split h1
  refine ⟨⟨fun i q a b hq => ?_, fun r q => ?_⟩, fun j => ?_⟩
  · have e := absf_lt (Host.reduce_andi_all _ _ _ _ _ hz (ix4 i ⟨q, hq⟩ a b))
    have hs : extractStridedSlice S16x48x32x32 ![0, 0, 0, 0] x0 slices_S16x96x32x32_S16x48x32x32_0_0_0_0 (ix4 i ⟨q, hq⟩ a b)
        = x0 (ix4 i q a b) := by pointwise
    rw [hs] at e
    exact e
  · exact absf_lt (Host.reduce_andi_all _ _ _ _ _ hw (ix4 r q 0 0))
  · have e : Ideal.cmp .oeq (x2 j) (Ideal.ofBits .f32 0x00000000#32) = 1#1 := Host.reduce_andi_all _ _ _ _ _ hb j
    rw [bits_zero] at e
    by_contra hn
    have hn' : ¬ x2 j = ((0 : ℝ) : EReal) := hn
    simp [Ideal.cmp, hn] at e

end Cert.Pre_finite_no_bias

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_no_bias
public import proofs.«01_k».proof.Proof.KernelRun
public import proofs.«01_k».proof.Proof.RefRun
public import proofs.«01_k».proof.Proof.Precondition
public import Idealize.ShloMosaic.Adequacy
public import Idealize.ShloMosaic.Init

@[expose] public section

noncomputable section

namespace Cert.Proof

open Idealize.ShloMosaic Idealize.SL.Sem Cert.Kernel

/-- The two programs compute the same results. -/
theorem algebraic : algebraic_KernelIdeal_ReferenceIdeal_pre_finite_no_bias := by
  intro m g m' g' hpre hargs
  have hk := fun c => (Cert.Pre_finite_no_bias.finite_of (hpre c)).1
  have hb := fun c => (Cert.Pre_finite_no_bias.finite_of (hpre c)).2
  have h0 : ∀ c, Cert.ReferenceIdeal.Spline.arg0 m' c = m ((c.tc : Thread Cert.KernelIdeal.nD Cert.KernelIdeal.τ).loc Cert.KernelIdeal.main_arg0) :=
    fun c => (hargs c).1
  have h1 : ∀ c, Cert.ReferenceIdeal.Spline.arg1 m' c = m ((c.tc : Thread Cert.KernelIdeal.nD Cert.KernelIdeal.τ).loc Cert.KernelIdeal.main_arg1) :=
    fun c => (hargs c).2.1
  have h2 : ∀ c, Cert.ReferenceIdeal.Spline.arg2 m' c = m ((c.tc : Thread Cert.KernelIdeal.nD Cert.KernelIdeal.τ).loc Cert.KernelIdeal.main_arg2) :=
    fun c => (hargs c).2.2
  refine ⟨fun c => Cert.KernelIdeal.Value.result0 m c, fun c => Cert.KernelIdeal.Value.result1 m c,
    Cert.KernelIdeal.Value.run m g hk, ?_⟩
  refine (θ_run Cert.ReferenceIdeal.defs _ _).mono (fun r h c => ⟨(h c).1.trans ?_, (h c).2.1.trans ?_, (h c).2.2⟩)
    (Cert.ReferenceIdeal.Spline.run m' g' (fun c => ?_) fun c => ?_)
  · rw [h0 c, h1 c]; exact hk c
  · rw [h2 c]; exact hb c
  · rw [h0 c, h1 c]; rfl
  · rw [h0 c, h1 c]; rfl

/-- All the claims. -/
theorem claim : Cert.Claim :=
  ⟨Cert.Kernel.Gen.facts, Cert.KernelIdeal.Gen.facts, Cert.ReferenceIdeal.Gen.facts, Cert.Pre_finite_no_bias.Gen.facts,
    fun m g _ => Cert.Kernel.Gen.frame m g,
    fun m g _ => Cert.KernelIdeal.Gen.frame m g,
    fun m g _ => Cert.KernelIdeal.Gen.frame m g,
    fun m g _ => Cert.ReferenceIdeal.Spline.frame m g,
    fun m g _ => Cert.ReferenceIdeal.Spline.frame m g,
    trivial,
    algebraic⟩

end Cert.Proof

end
